-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S512x2048 : Shape := ⟨2, ![512, 2048]⟩
abbrev S8x512x512 : Shape := ⟨3, ![8, 512, 512]⟩
abbrev S2x512x2048 : Shape := ⟨3, ![2, 512, 2048]⟩
abbrev S8 : Shape := ⟨1, ![8]⟩
abbrev S2 : Shape := ⟨1, ![2]⟩
abbrev S1 : Shape := ⟨1, ![1]⟩
abbrev S_ : Shape := ⟨0, ![]⟩
abbrev S1x512x2048 : Shape := ⟨3, ![1, 512, 2048]⟩
abbrev S1x512x512 : Shape := ⟨3, ![1, 512, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S512x2048, .f32⟩
  | .local _ .vmem, ⟨0, _⟩ => ⟨S4096x512, .f32⟩
  | .local _ .vmem, ⟨1, _⟩ => ⟨S512x2048, .f32⟩
  | .local _ .vmem, ⟨2, _⟩ => ⟨S4096x512, .bf16⟩
  | .local _ .vmem, ⟨3, _⟩ => ⟨S8x512x512, .bf16⟩
  | .local _ .vmem, ⟨4, _⟩ => ⟨S2x512x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.subi v2 c0_i32
  let c8_i32_0 : BitVec 32 := 8#32
  let v4 : BitVec 32 := Scalar.addi v3 c8_i32_0
  let c8_i32_1 : BitVec 32 := 8#32
  let v5 : BitVec 32 := Scalar.remsi v4 c8_i32_1
  let c512_i32 : BitVec 32 := 512#32
  let v33 : BitVec 32 := Scalar.muli v5 c512_i32
  let c0_i32_24 : BitVec 32 := 0#32
  ![v33.toNat, 0]
def k0_dev1 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v46 : BitVec 32 := Scalar.addi v2 c1_i32_31
  let c8_i32_32 : BitVec 32 := 8#32
  let v47 : BitVec 32 := Scalar.remsi v46 c8_i32_32
  let c1_i32_34 : BitVec 32 := 1#32
  let v48 : BitVec 32 := Scalar.muli v47 c1_i32_34
  let v49 : BitVec 32 := Scalar.addi c0_i32_35 v48
  v49.toNat
def k0_dev2 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_36 : BitVec 32 := 2#32
  let v50 : BitVec 32 := Scalar.addi v2 c2_i32_36
  let c8_i32_37 : BitVec 32 := 8#32
  let v51 : BitVec 32 := Scalar.remsi v50 c8_i32_37
  let c1_i32_39 : BitVec 32 := 1#32
  let v52 : BitVec 32 := Scalar.muli v51 c1_i32_39
  let v53 : BitVec 32 := Scalar.addi c0_i32_40 v52
  v53.toNat
def k0_dev3 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_41 : BitVec 32 := 3#32
  let v54 : BitVec 32 := Scalar.addi v2 c3_i32_41
  let c8_i32_42 : BitVec 32 := 8#32
  let v55 : BitVec 32 := Scalar.remsi v54 c8_i32_42
  let c1_i32_44 : BitVec 32 := 1#32
  let v56 : BitVec 32 := Scalar.muli v55 c1_i32_44
  let v57 : BitVec 32 := Scalar.addi c0_i32_45 v56
  v57.toNat
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_46 : BitVec 32 := 4#32
  let v58 : BitVec 32 := Scalar.addi v2 c4_i32_46
  let c8_i32_47 : BitVec 32 := 8#32
  let v59 : BitVec 32 := Scalar.remsi v58 c8_i32_47
  let c1_i32_49 : BitVec 32 := 1#32
  let v60 : BitVec 32 := Scalar.muli v59 c1_i32_49
  let v61 : BitVec 32 := Scalar.addi c0_i32_50 v60
  v61.toNat
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_51 : BitVec 32 := 5#32
  let v62 : BitVec 32 := Scalar.addi v2 c5_i32_51
  let c8_i32_52 : BitVec 32 := 8#32
  let v63 : BitVec 32 := Scalar.remsi v62 c8_i32_52
  let c1_i32_54 : BitVec 32 := 1#32
  let v64 : BitVec 32 := Scalar.muli v63 c1_i32_54
  let v65 : BitVec 32 := Scalar.addi c0_i32_55 v64
  v65.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_56 : BitVec 32 := 6#32
  let v66 : BitVec 32 := Scalar.addi v2 c6_i32_56
  let c8_i32_57 : BitVec 32 := 8#32
  let v67 : BitVec 32 := Scalar.remsi v66 c8_i32_57
  let c1_i32_59 : BitVec 32 := 1#32
  let v68 : BitVec 32 := Scalar.muli v67 c1_i32_59
  let v69 : BitVec 32 := Scalar.addi c0_i32_60 v68
  v69.toNat
def k0_dev7 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_61 : BitVec 32 := 7#32
  let v70 : BitVec 32 := Scalar.addi v2 c7_i32_61
  let c8_i32_62 : BitVec 32 := 8#32
  let v71 : BitVec 32 := Scalar.remsi v70 c8_i32_62
  let c1_i32_64 : BitVec 32 := 1#32
  let v72 : BitVec 32 := Scalar.muli v71 c1_i32_64
  let v73 : BitVec 32 := Scalar.addi c0_i32_65 v72
  v73.toNat
def k0_off2 (d0 : Dev nD) (c1_i32_67 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v74 : BitVec 32 := Scalar.addi v2 c1_i32_67
  let c8_i32_68 : BitVec 32 := 8#32
  let v75 : BitVec 32 := Scalar.remsi v74 c8_i32_68
  ![v75.toNat]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_72 : BitVec 32 := 0#32
  let c0_i32_73 : BitVec 32 := 0#32
  ![v2.toNat, 0, 0]
def k0_off5 (d0 : Dev nD) (c1_i32_67 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v74 : BitVec 32 := Scalar.addi v2 c1_i32_67
  let c8_i32_68 : BitVec 32 := 8#32
  let v75 : BitVec 32 := Scalar.remsi v74 c8_i32_68
  let c512_i32_69 : BitVec 32 := 512#32
  let v76 : BitVec 32 := Scalar.muli v75 c512_i32_69
  let c0_i32_74 : BitVec 32 := 0#32
  ![v76.toNat, 0]
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_67 : BitVec 32 := 1#32
  let v74 : BitVec 32 := Scalar.addi v2 c1_i32_67
  let c8_i32_68 : BitVec 32 := 8#32
  let v75 : BitVec 32 := Scalar.remsi v74 c8_i32_68
  let c1_i32_70 : BitVec 32 := 1#32
  let v77 : BitVec 32 := Scalar.muli v75 c1_i32_70
  let v78 : BitVec 32 := Scalar.addi c0_i32_71 v77
  v78.toNat
def k0_dev9 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_75 : BitVec 32 := 2#32
  let v86 : BitVec 32 := Scalar.addi v2 c2_i32_75
  let c8_i32_76 : BitVec 32 := 8#32
  let v87 : BitVec 32 := Scalar.remsi v86 c8_i32_76
  let c1_i32_78 : BitVec 32 := 1#32
  let v89 : BitVec 32 := Scalar.muli v87 c1_i32_78
  let v90 : BitVec 32 := Scalar.addi c0_i32_79 v89
  v90.toNat
def k0_dev10 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_83 : BitVec 32 := 3#32
  let v98 : BitVec 32 := Scalar.addi v2 c3_i32_83
  let c8_i32_84 : BitVec 32 := 8#32
  let v99 : BitVec 32 := Scalar.remsi v98 c8_i32_84
  let c1_i32_86 : BitVec 32 := 1#32
  let v101 : BitVec 32 := Scalar.muli v99 c1_i32_86
  let v102 : BitVec 32 := Scalar.addi c0_i32_87 v101
  v102.toNat
def k0_dev11 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_91 : BitVec 32 := 4#32
  let v110 : BitVec 32 := Scalar.addi v2 c4_i32_91
  let c8_i32_92 : BitVec 32 := 8#32
  let v111 : BitVec 32 := Scalar.remsi v110 c8_i32_92
  let c1_i32_94 : BitVec 32 := 1#32
  let v113 : BitVec 32 := Scalar.muli v111 c1_i32_94
  let v114 : BitVec 32 := Scalar.addi c0_i32_95 v113
  v114.toNat
def k0_dev12 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_99 : BitVec 32 := 5#32
  let v122 : BitVec 32 := Scalar.addi v2 c5_i32_99
  let c8_i32_100 : BitVec 32 := 8#32
  let v123 : BitVec 32 := Scalar.remsi v122 c8_i32_100
  let c1_i32_102 : BitVec 32 := 1#32
  let v125 : BitVec 32 := Scalar.muli v123 c1_i32_102
  let v126 : BitVec 32 := Scalar.addi c0_i32_103 v125
  v126.toNat
def k0_dev13 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_107 : BitVec 32 := 6#32
  let v134 : BitVec 32 := Scalar.addi v2 c6_i32_107
  let c8_i32_108 : BitVec 32 := 8#32
  let v135 : BitVec 32 := Scalar.remsi v134 c8_i32_108
  let c1_i32_110 : BitVec 32 := 1#32
  let v137 : BitVec 32 := Scalar.muli v135 c1_i32_110
  let v138 : BitVec 32 := Scalar.addi c0_i32_111 v137
  v138.toNat
def k0_dev14 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_115 : BitVec 32 := 7#32
  let v146 : BitVec 32 := Scalar.addi v2 c7_i32_115
  let c8_i32_116 : BitVec 32 := 8#32
  let v147 : BitVec 32 := Scalar.remsi v146 c8_i32_116
  let c1_i32_118 : BitVec 32 := 1#32
  let v149 : BitVec 32 := Scalar.muli v147 c1_i32_118
  let v150 : BitVec 32 := Scalar.addi c0_i32_119 v149
  v150.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_128 : BitVec 32 := 512#32
  let v163 : BitVec 32 := Scalar.muli v2 c512_i32_128
  let v164 : Index := Scalar.indexCast v163
  let c0_129 : Index := 0#32
  ![v164.toNat, 0]
def k0_off7 (d0 : Dev nD) (c1_i32_2 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.subi v2 c1_i32_2
  let c8_i32_3 : BitVec 32 := 8#32
  let v7 : BitVec 32 := Scalar.addi v6 c8_i32_3
  let c8_i32_4 : BitVec 32 := 8#32
  let v8 : BitVec 32 := Scalar.remsi v7 c8_i32_4
  ![v8.toNat]
def k0_off8 (d0 : Dev nD) (c1_i32_2 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.subi v2 c1_i32_2
  let c8_i32_3 : BitVec 32 := 8#32
  let v7 : BitVec 32 := Scalar.addi v6 c8_i32_3
  let c8_i32_4 : BitVec 32 := 8#32
  let v8 : BitVec 32 := Scalar.remsi v7 c8_i32_4
  let c0_i32_148 : BitVec 32 := 0#32
  let c0_i32_149 : BitVec 32 := 0#32
  ![v8.toNat, 0, 0]
def k0_off9 (d0 : Dev nD) (c1_i32_2 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.subi v2 c1_i32_2
  let c8_i32_3 : BitVec 32 := 8#32
  let v7 : BitVec 32 := Scalar.addi v6 c8_i32_3
  let c8_i32_4 : BitVec 32 := 8#32
  let v8 : BitVec 32 := Scalar.remsi v7 c8_i32_4
  let v189 : Index := Scalar.indexCast v8
  let c0_152 : Index := 0#32
  let c0_153 : Index := 0#32
  ![v189.toNat, 0, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Protocol.lean ====
/-
# The exchange protocol of the kernel

One device's kernel body sends its seven foreign row blocks of the bfloat16 cast of `x` to the devices they belong to, one
remote copy each, and streams the row blocks of `w` through two slots of its own by local copies. Four families of
semaphores of a device `c` are shared or waited on:

* the barrier semaphore: every other device `d` signals one unit; device `d`'s unit hands `c` the slot `c` of `d`'s landing
  buffer, into which `c` will copy. `c` waits for the seven units at once.
* receive semaphore `s`, one per other device `s`: the copy of `s` lands there; its landing hands `c` the slot `s` of its own
  landing buffer holding row block `c` of the cast of `x` on `s`.
* send semaphore `t`, one per other device `t`: the source side of the copy to `t`; it hands back `c`'s row block `t`.
* streaming semaphore `b` of slot `b` of the two: four rounds, round `r` the local copy of step `2 r + b`; it hands back the
  slot holding the row block of `w` that the step multiplies by, and that row block of `w`.

This module states these as a schedule of the rounds library, with the tables of the schedule, what every device owes at
launch and the levels of the semaphores.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, whose duties are named by devices -/

abbrev UX : Type := URounds (GSem nD τ sig) (Dev nD)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Who sends to whom -/

/-- The device that device `c`'s copy number `r` goes to. -/
def tg (c : Dev nD) (r : ℕ) : Dev nD := ⟨(c.val + r + 1) % 8, Nat.mod_lt _ (by decide)⟩
/-- The device whose block device `c` multiplies at step `t`. -/
def sc (c : Dev nD) (t : ℕ) : Dev nD := ⟨(c.val + 8 - t) % 8, Nat.mod_lt _ (by decide)⟩

theorem sc_zero (c : Dev nD) : sc c 0 = c := by revert c; decide

/-! ## The views -/

theorem xrow_inb (b : Fin 8) : ∀ a, (![512 * b.val, 0] : Fin 2 → ℕ) a + S512x512.size a ≤ S4096x512.size a := by revert b; decide
theorem comm_inb (b : Fin 8) : ∀ a, (![b.val, 0, 0] : Fin 3 → ℕ) a + S1x512x512.size a ≤ S8x512x512.size a := by revert b; decide
theorem wrow_inb (b : Fin 8) : ∀ a, (![512 * b.val, 0] : Fin 2 → ℕ) a + S512x2048.size a ≤ S4096x2048.size a := by revert b; decide
theorem wslot_inb (b : Fin 2) : ∀ a, (![b.val, 0, 0] : Fin 3 → ℕ) a + S1x512x2048.size a ≤ S2x512x2048.size a := by revert b; decide

abbrev xbfM : Memref sig .tc .vmem S4096x512 .bf16 := Memref.whole cc0_scratch0
abbrev commM : Memref sig .tc .vmem S8x512x512 .bf16 := Memref.whole cc0_scratch1
abbrev wblkM : Memref sig .tc .vmem S2x512x2048 .f32 := Memref.whole cc0_scratch2
abbrev wM : Memref sig .tc .hbm S4096x2048 .f32 := Memref.whole main_arg1
abbrev xM : Memref sig .tc .vmem S4096x512 .f32 := Memref.whole cc0_stg0_0
abbrev oM : Memref sig .tc .vmem S512x2048 .f32 := Memref.whole cc0_stg1_0

/-- Row block `b` of the cast of `x`; slot `b` of the landing buffer; row block `b` of `w`; slot `b` of the streaming buffer. -/
def xrow (b : Fin 8) : Memref sig .tc .vmem S512x512 .bf16 :=
  xbfM.slice (Rect.unit (s := S4096x512) ![512 * b.val, 0] S512x512.size (xrow_inb b)) (fun _ => rfl)
def comm (b : Fin 8) : Memref sig .tc .vmem S512x512 .bf16 :=
  (commM.slice (Rect.unit (s := S8x512x512) ![b.val, 0, 0] S1x512x512.size (comm_inb b)) (fun _ => rfl)).squeeze S512x512 squeezes_S1x512x512_S512x512
def wrow (b : Fin 8) : Memref sig .tc .hbm S512x2048 .f32 :=
  wM.slice (Rect.unit (s := S4096x2048) ![512 * b.val, 0] S512x2048.size (wrow_inb b)) (fun _ => rfl)
def wslot (b : Fin 2) : Memref sig .tc .vmem S512x2048 .f32 :=
  (wblkM.slice (Rect.unit (s := S2x512x2048) ![b.val, 0, 0] S1x512x2048.size (wslot_inb b)) (fun _ => rfl)).squeeze S512x2048 squeezes_S1x512x2048_S512x2048

omit [FloatOps F] in
theorem xrow_of (b : Fin 8) {off : Fin 2 → ℕ} (h : off = ![512 * b.val, 0]) (inb : ∀ a, off a + S512x512.size a ≤ S4096x512.size a) :
    xbfM.slice (Rect.unit (s := S4096x512) off S512x512.size inb) (fun _ => rfl) = xrow b := by subst h; rfl
theorem comm_of (b : Fin 8) {off : Fin 3 → ℕ} (h : off = ![b.val, 0, 0]) (inb : ∀ a, off a + S1x512x512.size a ≤ S8x512x512.size a) :
    (commM.slice (Rect.unit (s := S8x512x512) off S1x512x512.size inb) (fun _ => rfl)).squeeze S512x512 squeezes_S1x512x512_S512x512 = comm b := by subst h; rfl
theorem wrow_of (b : Fin 8) {off : Fin 2 → ℕ} (h : off = ![512 * b.val, 0]) (inb : ∀ a, off a + S512x2048.size a ≤ S4096x2048.size a) :
    wM.slice (Rect.unit (s := S4096x2048) off S512x2048.size inb) (fun _ => rfl) = wrow b := by subst h; rfl
theorem wslot_of (b : Fin 2) {off : Fin 3 → ℕ} (h : off = ![b.val, 0, 0]) (inb : ∀ a, off a + S1x512x2048.size a ≤ S2x512x2048.size a) :
    (wblkM.slice (Rect.unit (s := S2x512x2048) off S1x512x2048.size inb) (fun _ => rfl)).squeeze S512x2048 squeezes_S1x512x2048_S512x2048 = wslot b := by subst h; rfl

/-! ## The semaphores -/

abbrev barS : Sem sig := (SemArray.scalar (sig.barrier 0 rfl) : Sems sig S_).sem
def sendQ (t : Fin 8) : DmaSem sig := ⟨2 + t.val, by have := t.isLt; show 2 + t.val < 20; omega⟩
def recvQ (s : Fin 8) : DmaSem sig := ⟨10 + s.val, by have := s.isLt; show 10 + s.val < 20; omega⟩
def wQ (b : Fin 2) : DmaSem sig := ⟨18 + b.val, by have := b.isLt; show 18 + b.val < 20; omega⟩

theorem sendQ_val (t : Fin 8) : (sendQ t).val = 2 + t.val := rfl
theorem recvQ_val (t : Fin 8) : (recvQ t).val = 10 + t.val := rfl
theorem wQ_val (b : Fin 2) : (wQ b).val = 18 + b.val := rfl

theorem sem_inb (t : Fin 8) : ∀ a, (![t.val] : Fin 1 → ℕ) a + S1.size a ≤ S8.size a := by revert t; decide
theorem wsem_inb (b : Fin 2) : ∀ a, (![b.val] : Fin 1 → ℕ) a + S1.size a ≤ S2.size a := by revert b; decide

theorem sendQ_of (t : Fin 8) {off : Fin 1 → ℕ} (h : off = ![t.val]) (inb : ∀ a, off a + S1.size a ≤ S8.size a) :
    ((cc0_scratch3.slice (Rect.unit (s := S8) off S1.size inb)).squeeze S_ squeezes_S1_S_).sem = sendQ t := by
  subst h; revert t; decide
theorem recvQ_of (t : Fin 8) {off : Fin 1 → ℕ} (h : off = ![t.val]) (inb : ∀ a, off a + S1.size a ≤ S8.size a) :
    ((cc0_scratch4.slice (Rect.unit (s := S8) off S1.size inb)).squeeze S_ squeezes_S1_S_).sem = recvQ t := by
  subst h; revert t; decide
theorem wQ_of (b : Fin 2) {off : Fin 1 → ℕ} (h : off = ![b.val]) (inb : ∀ a, off a + S1.size a ≤ S2.size a) :
    ((cc0_scratch5.slice (Rect.unit (s := S2) off S1.size inb)).squeeze S_ squeezes_S1_S_).sem = wQ b := by
  subst h; revert b; decide

abbrev barCell (c : Dev nD) : GSem nD τ sig := ((c : Thread nD τ), .reg barS)
abbrev sendCell (c : Dev nD) (t : Fin 8) : GSem nD τ sig := ((c : Thread nD τ), .dma (sendQ t))
abbrev recvCell (c : Dev nD) (s : Fin 8) : GSem nD τ sig := ((c : Thread nD τ), .dma (recvQ s))
abbrev wCell (c : Dev nD) (b : Fin 2) : GSem nD τ sig := ((c : Thread nD τ), .dma (wQ b))

/-- What one exchanged block credits, and what one streamed block credits. -/
abbrev N : ℕ := (comm 0).view.dmaCredit
abbrev M : ℕ := (wslot 0).view.dmaCredit
theorem N_pos : 0 < N := View.dmaCredit_pos _ (by decide)
theorem M_pos : 0 < M := View.dmaCredit_pos _ (by decide)
theorem credit_comm (b : Fin 8) : (comm b).view.dmaCredit = N := rfl
theorem credit_xrow (b : Fin 8) : (xrow b).view.dmaCredit = N := rfl
theorem credit_wslot (b : Fin 2) : (wslot b).view.dmaCredit = M := rfl

/-! ## Contents -/

/-- Device `c`'s block of `x`, its cast, and its copy of `w`. -/
def xstg (c : Dev nD) : (cc0_stg0_0 : Ref sig .tc).ty.Contents (Elt F) :=
  (win0_0.blk (0 : Fin 1)).view.read (Elt F) (m ((c : Thread nD τ).loc main_arg0))
def xbf (c : Dev nD) : (cc0_scratch0 : Ref sig .tc).ty.Contents (Elt F) := k0_pay2 (k0_pay1 (xstg m c))
def wv (c : Dev nD) : (main_arg1 : Ref sig .tc).ty.Contents (Elt F) := m ((c : Thread nD τ).loc main_arg1)

/-- Row block `b` of the cast of `x` on device `s`, and row block `b` of device `c`'s `w`. -/
def xblock (s : Dev nD) (b : Fin 8) : S512x512.Idx → Elt F .bf16 := (xrow b).view.read (Elt F) (xbf m s)
def wblock (c : Dev nD) (b : Fin 8) : S512x2048.Idx → Elt F .f32 := (wrow b).view.read (Elt F) (wv m c)

/-! ## What is held -/

def xrowPts (c : Dev nD) (b : Fin 8) : sProp 𝕄 := (xrow b).view.loc (c : Thread nD τ) ↦[(xrow b).view.set]{fullShare} xbf m c
def commPts (c : Dev nD) (b : Fin 8) (f : Buf (Elt F) ((comm b).view.loc (c : Thread nD τ))) : sProp 𝕄 :=
  (comm b).view.loc (c : Thread nD τ) ↦[(comm b).view.set]{fullShare} f
def wrowPts (c : Dev nD) (b : Fin 8) : sProp 𝕄 := (wrow b).view.loc (c : Thread nD τ) ↦[(wrow b).view.set]{fullShare} wv m c
def wslotPts (c : Dev nD) (b : Fin 2) (f : Buf (Elt F) ((wslot b).view.loc (c : Thread nD τ))) : sProp 𝕄 :=
  (wslot b).view.loc (c : Thread nD τ) ↦[(wslot b).view.set]{fullShare} f

omit [FloatOps F] in
theorem pts_storable (ℓ : Loc nD τ sig) (S : Finset (Idx ℓ)) (f : Buf (Elt F) ℓ) : BI.Storable (upEmb : UEmb _ 𝕄) (ℓ ↦[S]{fullShare} f) := inferInstance
omit [FloatOps F] in
instance commPts_storable (c : Dev nD) (b) (f) : BI.Storable (upEmb : UEmb _ 𝕄) (commPts (F := F) c b f) := by unfold commPts; infer_instance
omit [FloatOps F] in
instance wslotPts_storable (c : Dev nD) (b) (f) : BI.Storable (upEmb : UEmb _ 𝕄) (wslotPts (F := F) c b f) := by unfold wslotPts; infer_instance
omit [FloatOps F] in
instance wrowPts_storable (c : Dev nD) (b) : BI.Storable (upEmb : UEmb _ 𝕄) (wrowPts (F := F) m c b) := pts_storable _ _ _
instance xrowPts_storable (c : Dev nD) (b) : BI.Storable (upEmb : UEmb _ 𝕄) (xrowPts (F := F) m c b) := pts_storable _ _ _

/-! ## The schedule -/

/-- Device `d`'s unit on `c`'s barrier hands over slot `c` of `d`'s landing buffer. -/
def barPay (c d : Dev nD) : sProp 𝕄 := iprop(∃ f, commPts d c f)
/-- The landing of device `s`'s copy hands `c` its slot `s`, holding row block `c` of the cast on `s`. -/
def recvPay (c s : Dev nD) : sProp 𝕄 := iprop(∃ f, ⌜(comm s).view.read (Elt F) f = xblock m s c⌝ ∗ commPts c s f)
/-- The source side of `c`'s copy to `t` hands back row block `t`. -/
def sendPay (c t : Dev nD) : sProp 𝕄 := xrowPts m c t
/-- The local copy of step `t` into slot `b` hands back the slot, holding the step's row block of `w`, and that row block. -/
def wPay (c : Dev nD) (b : Fin 2) (t : ℕ) : sProp 𝕄 :=
  iprop((∃ f, ⌜(wslot b).view.read (Elt F) f = wblock m c (sc c t)⌝ ∗ wslotPts c b f) ∗ wrowPts m c (sc c t))

/-- The duties of round `r` of DMA semaphore number `q` of device `c`. -/
def dmaDuties (c : Dev nD) (q r : ℕ) : Finset (Dev nD) :=
  if q < 2 then ∅ else if q < 10 then (if r = 0 ∧ q ≠ 2 + c.val then {0} else ∅)
  else if q < 18 then (if r = 0 ∧ q ≠ 10 + c.val then {0} else ∅) else (if r < 4 then {0} else ∅)

def f8 (n : ℕ) : Fin 8 := ⟨n % 8, Nat.mod_lt _ (by decide)⟩
def f2 (n : ℕ) : Fin 2 := ⟨n % 2, Nat.mod_lt _ (by decide)⟩

def dmaPay (c : Dev nD) (q r : ℕ) : sProp 𝕄 :=
  if q < 2 then iprop(emp) else if q < 10 then sendPay m c (f8 (q - 2))
  else if q < 18 then recvPay m c (f8 (q - 10)) else wPay m c (f2 (q - 18)) (2 * r + (q - 18))

instance dmaPay_storable (c : Dev nD) (q r : ℕ) : BI.Storable (upEmb : UEmb _ 𝕄) (dmaPay (F := F) m c q r) := by
  unfold dmaPay sendPay recvPay wPay
  (repeat' split) <;> infer_instance

omit [FloatOps F] in
instance barPay_storable (c d : Dev nD) : BI.Storable (upEmb : UEmb _ 𝕄) (barPay (F := F) c d) := by
  unfold barPay; infer_instance

/-- The exchange's schedule: see the module's head. -/
def xRd : Rounds.Schedule (GSem nD τ sig) (Dev nD) 𝕄 where
  duties g r := if g.1.2 = .tc then (match g.2 with
    | .reg s => if r = 0 ∧ s = barS then Finset.univ.erase g.1.1 else ∅
    | .dma q => dmaDuties g.1.1 q.val r) else ∅
  unitless _ := False
  amount g _ _ := match g.2 with
    | .reg _ => 1
    | .dma q => if q.val < 18 then N else M
  payload g r d := match g.2 with
    | .reg _ => barPay g.1.1 d
    | .dma q => dmaPay m g.1.1 q.val r
  amount_pos g _ _ _ := by
    cases g.2 with
    | reg s => exact Nat.one_pos
    | dma q =>
      show 0 < if q.val < 18 then N else M
      split
      · exact N_pos
      · exact M_pos

instance xRd_payload_storable (g : GSem nD τ sig) (r : ℕ) (d : Dev nD) :
    BI.Storable (upEmb : UEmb _ 𝕄) ((xRd (F := F) m).payload g r d) := by
  obtain ⟨c, s | q⟩ := g
  · show BI.Storable upEmb (barPay c.1 d); infer_instance
  · show BI.Storable upEmb (dmaPay m c.1 q.val r); infer_instance

section Sched
variable (c : Dev nD)

theorem duties_dma (q : DmaSem sig) (r : ℕ) : (xRd (F := F) m).duties ((c : Thread nD τ), .dma q) r = dmaDuties c q.val r := by
  show (if (Proc.tc : Proc τ) = .tc then dmaDuties c q.val r else ∅) = dmaDuties c q.val r
  exact if_pos rfl
theorem amount_dma (q : DmaSem sig) (r : ℕ) (d : Dev nD) : (xRd (F := F) m).amount ((c : Thread nD τ), .dma q) r d = if q.val < 18 then N else M := rfl
theorem payload_dma (q : DmaSem sig) (r : ℕ) (d : Dev nD) : (xRd (F := F) m).payload ((c : Thread nD τ), .dma q) r d = dmaPay m c q.val r := rfl

theorem duties_bar : (xRd (F := F) m).duties (barCell c) 0 = Finset.univ.erase c := by
  dsimp only [xRd]; rw [if_pos rfl, if_pos ⟨rfl, rfl⟩]
theorem duties_send (t : Fin 8) (h : t ≠ c) : (xRd (F := F) m).duties (sendCell c t) 0 = {0} := by
  have h' : t.val ≠ c.val := fun e => h (Fin.ext e)
  have := t.isLt
  rw [duties_dma, sendQ_val]; unfold dmaDuties; rw [if_neg (by omega), if_pos (by omega), if_pos ⟨rfl, by omega⟩]
theorem duties_recv (s : Fin 8) (h : s ≠ c) : (xRd (F := F) m).duties (recvCell c s) 0 = {0} := by
  have h' : s.val ≠ c.val := fun e => h (Fin.ext e)
  have := s.isLt
  rw [duties_dma, recvQ_val]; unfold dmaDuties; rw [if_neg (by omega), if_neg (by omega), if_pos (by omega), if_pos ⟨rfl, by omega⟩]
theorem duties_w (b : Fin 2) (r : ℕ) (h : r < 4) : (xRd (F := F) m).duties (wCell c b) r = {0} := by
  rw [duties_dma, wQ_val]; unfold dmaDuties; rw [if_neg (by omega), if_neg (by omega), if_neg (by omega), if_pos h]

theorem duties_bar_later (r : ℕ) (h : 1 ≤ r) : (xRd (F := F) m).duties (barCell c) r = ∅ := by
  dsimp only [xRd]; rw [if_pos rfl, if_neg (fun e => by omega)]
/-- A send or receive semaphore of a device's own number has no duty; the others none after round 0. -/
theorem duties_send_later (t : Fin 8) (r : ℕ) (h : (if t = c then 0 else 1) ≤ r) : (xRd (F := F) m).duties (sendCell c t) r = ∅ := by
  have := t.isLt
  rw [duties_dma, sendQ_val]; unfold dmaDuties; rw [if_neg (by omega), if_pos (by omega), if_neg]
  rintro ⟨h0, h1⟩
  rw [if_neg (fun e => h1 (by rw [e]))] at h; omega
theorem duties_recv_later (t : Fin 8) (r : ℕ) (h : (if t = c then 0 else 1) ≤ r) : (xRd (F := F) m).duties (recvCell c t) r = ∅ := by
  have := t.isLt
  rw [duties_dma, recvQ_val]; unfold dmaDuties; rw [if_neg (by omega), if_neg (by omega), if_pos (by omega), if_neg]
  rintro ⟨h0, h1⟩
  rw [if_neg (fun e => h1 (by rw [e]))] at h; omega
theorem duties_w_later (b : Fin 2) (r : ℕ) (h : 4 ≤ r) : (xRd (F := F) m).duties (wCell c b) r = ∅ := by
  rw [duties_dma, wQ_val]; unfold dmaDuties; rw [if_neg (by omega), if_neg (by omega), if_neg (by omega), if_neg (by omega)]

theorem amount_bar (r : ℕ) (d : Dev nD) : (xRd (F := F) m).amount (barCell c) r d = 1 := rfl
theorem amount_send (t : Fin 8) (r : ℕ) (d : Dev nD) : (xRd (F := F) m).amount (sendCell c t) r d = N := by
  have := t.isLt
  rw [amount_dma, sendQ_val, if_pos (by omega)]
theorem amount_recv (t : Fin 8) (r : ℕ) (d : Dev nD) : (xRd (F := F) m).amount (recvCell c t) r d = N := by
  have := t.isLt
  rw [amount_dma, recvQ_val, if_pos (by omega)]
theorem amount_w (b : Fin 2) (r : ℕ) (d : Dev nD) : (xRd (F := F) m).amount (wCell c b) r d = M := by
  rw [amount_dma, wQ_val, if_neg (by omega)]

theorem expect_bar : (xRd (F := F) m).expect (barCell c) 0 = 7 := by
  unfold Schedule.expect Schedule.amountOf
  rw [duties_bar, Finset.sum_congr rfl fun d _ => amount_bar m c 0 d, Finset.sum_const, smul_eq_mul, mul_one,
    Finset.card_erase_of_mem (Finset.mem_univ _), Finset.card_univ, Fintype.card_fin]; rfl
theorem expect_send (t : Fin 8) (h : t ≠ c) : (xRd (F := F) m).expect (sendCell c t) 0 = N := by
  unfold Schedule.expect Schedule.amountOf; rw [duties_send m c t h, Finset.sum_singleton, amount_send]
theorem expect_recv (t : Fin 8) (h : t ≠ c) : (xRd (F := F) m).expect (recvCell c t) 0 = N := by
  unfold Schedule.expect Schedule.amountOf; rw [duties_recv m c t h, Finset.sum_singleton, amount_recv]
theorem expect_w (b : Fin 2) (r : ℕ) (h : r < 4) : (xRd (F := F) m).expect (wCell c b) r = M := by
  unfold Schedule.expect Schedule.amountOf; rw [duties_w m c b r h, Finset.sum_singleton, amount_w]

theorem f8_val (t : Fin 8) : f8 t.val = t := Fin.ext (Nat.mod_eq_of_lt t.isLt)
theorem f2_val (t : Fin 2) : f2 t.val = t := Fin.ext (Nat.mod_eq_of_lt t.isLt)

theorem payload_bar (r : ℕ) (d : Dev nD) : (xRd (F := F) m).payload (barCell c) r d = barPay c d := rfl
theorem payload_send (t : Fin 8) (r : ℕ) (d : Dev nD) : (xRd (F := F) m).payload (sendCell c t) r d = sendPay m c t := by
  have := t.isLt
  rw [payload_dma, sendQ_val]; unfold dmaPay; rw [if_neg (by omega), if_pos (by omega), Nat.add_sub_cancel_left, f8_val]
theorem payload_recv (t : Fin 8) (r : ℕ) (d : Dev nD) : (xRd (F := F) m).payload (recvCell c t) r d = recvPay m c t := by
  have := t.isLt
  rw [payload_dma, recvQ_val]; unfold dmaPay; rw [if_neg (by omega), if_neg (by omega), if_pos (by omega), Nat.add_sub_cancel_left, f8_val]
theorem payload_w (b : Fin 2) (r : ℕ) (d : Dev nD) : (xRd (F := F) m).payload (wCell c b) r d = wPay m c b (2 * r + b.val) := by
  rw [payload_dma, wQ_val]; unfold dmaPay; rw [if_neg (by omega), if_neg (by omega), if_neg (by omega), Nat.add_sub_cancel_left, f2_val]

/-- What a wait for a whole round hands over, family by family. -/
theorem rest_bar : bigSep ((xRd (F := F) m).duties (barCell c) 0 \ ∅) (fun d => (xRd (F := F) m).payload (barCell c) 0 d)
    = bigSep (Finset.univ.erase c) (fun d => barPay c d) := by
  rw [Finset.sdiff_empty, duties_bar]; rfl
theorem rest_send (t : Fin 8) (h : t ≠ c) : bigSep ((xRd (F := F) m).duties (sendCell c t) 0 \ ∅) (fun d => (xRd (F := F) m).payload (sendCell c t) 0 d) = sendPay m c t := by
  rw [Finset.sdiff_empty, duties_send m c t h, bigSep_singleton, payload_send]
theorem rest_recv (t : Fin 8) (h : t ≠ c) : bigSep ((xRd (F := F) m).duties (recvCell c t) 0 \ ∅) (fun d => (xRd (F := F) m).payload (recvCell c t) 0 d) = recvPay m c t := by
  rw [Finset.sdiff_empty, duties_recv m c t h, bigSep_singleton, payload_recv]
theorem rest_w (b : Fin 2) (r : ℕ) (h : r < 4) : bigSep ((xRd (F := F) m).duties (wCell c b) r \ ∅) (fun d => (xRd (F := F) m).payload (wCell c b) r d) = wPay m c b (2 * r + b.val) := by
  rw [Finset.sdiff_empty, duties_w m c b r h, bigSep_singleton, payload_w]

end Sched

/-! ## What each core owes at launch; the levels -/

/-- What device `c` owes the others' receive semaphores when `n` of its seven copies are still to start; the next goes to
    `tg c (7 - n)`. -/
def oweR (c : Dev nD) : ℕ → CellTallies nD τ sig Unit
  | 0 => 0
  | n + 1 => oweR c n + tallyAt (recvCell (tg c (6 - n)) c) () N
/-- What it owes when `n` of its seven barrier signals, and all its copies, are still to come. -/
def oweB (c : Dev nD) : ℕ → CellTallies nD τ sig Unit
  | 0 => oweR c 7
  | n + 1 => oweB c n + tallyAt (barCell (tg c (6 - n))) () 1
def O₀ (c : Dev nD) : CellTallies nD τ sig Unit := oweB c 7

def L (g : GSem nD τ sig) : Finset Unit := if g.1.2 = .tc then {()} else ∅
/-- Barrier semaphores at 1, receive semaphores at 2, all others at 0. -/
def lv (g : GSem nD τ sig) (_ : Unit) : ℕ := match g.2 with
  | .reg _ => 1
  | .dma q => if 10 ≤ q.val ∧ q.val < 18 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (s : Fin 8) : lv (recvCell c s) () = 2 := by
  have := s.isLt
  show (if 10 ≤ (recvQ s).val ∧ (recvQ s).val < 18 then 2 else 0) = 2
  rw [recvQ_val, if_pos (by omega)]

theorem oweR_pos {c : Dev nD} (n : ℕ) {g : GSem nD τ sig} {u : Unit} (h : 0 < oweR c n g u) : ∃ d, g = recvCell d c := by
  induction n with
  | zero => exact absurd h (Nat.lt_irrefl 0)
  | succ n ih =>
    rw [oweR, Pi.add_apply, Finsupp.add_apply, tallyAt_apply] at h
    by_cases h' : g = recvCell (tg c (6 - n)) c ∧ u = ()
    · exact ⟨_, h'.1⟩
    · rw [if_neg h', Nat.add_zero] at h; exact ih h
theorem oweB_pos {c : Dev nD} (n : ℕ) {g : GSem nD τ sig} {u : Unit} (h : 0 < oweB c n g u) : ∃ d, g = recvCell d c ∨ g = barCell d := by
  induction n with
  | zero => obtain ⟨d, hd⟩ := oweR_pos 7 h; exact ⟨d, .inl hd⟩
  | succ n ih =>
    rw [oweB, Pi.add_apply, Finsupp.add_apply, tallyAt_apply] at h
    by_cases h' : g = barCell (tg c (6 - n)) ∧ u = ()
    · exact ⟨_, .inr h'.1⟩
    · rw [if_neg h', Nat.add_zero] at h; exact ih h

omit [FloatOps F] in
/-- A wait of the pipeline's own, on a semaphore below the exchange's, may be taken owing what a device owes at launch. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, rfl | rfl⟩ := oweB_pos 7 hg <;> exact Finset.mem_singleton_self _)
      (fun p hp => by rw [Finset.mem_singleton.mp hp]; dsimp only [lv]; rw [if_neg (by omega)])
      (fun g u hg => by
        obtain ⟨d, rfl | rfl⟩ := oweB_pos 7 hg
        · exact lt_of_lt_of_eq (by decide) (lv_recv d c).symm
        · exact lt_of_lt_of_eq (by decide) (lv_bar d).symm)
  · rw [MayWait_zero]; iintro -; iempintro

omit [FloatOps F] in
/-- At its barrier wait a device owes the others' receive semaphores only, which lie above its barrier. -/
theorem mayWait_bar (c : Dev nD) :
    (levAts L lv : sProp 𝕄) ⊢ MayWait (c : Thread nD τ) (.reg barS) () (oweR c 7) :=
  MayOwe.of_cut (L := L) (lev := lv) 1 (fun p hp => by rw [Finset.mem_singleton.mp hp, L_tc]; exact Finset.mem_singleton_self _)
    (fun g u hg => by obtain ⟨d, rfl⟩ := oweR_pos 7 hg; exact Finset.mem_singleton_self _)
    (fun p hp => by rw [Finset.mem_singleton.mp hp]; exact le_of_eq (lv_bar c))
    (fun g u hg => by obtain ⟨d, rfl⟩ := oweR_pos 7 hg; exact lt_of_lt_of_eq (by decide) (lv_recv d c).symm)

end Cert.Exchange
-- ==== Proof.Split.lean ====
/-
# The buffers block by block

The cast of `x`, the landing buffer, the streaming buffer and the copy of `w`, each held whole, are held block by block over
the blocks the exchange passes around, and come back whole. Also: a family over the devices in the order a device sends in
and in the order it multiplies in, and what the kernel's loads read from a block.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The element sets of the blocks -/

theorem xrow_set (b : Fin 8) : (xrow b).view.set = (Rect.unit (s := S4096x512) ![512 * b.val, 0] S512x512.size (xrow_inb b)).set :=
  View.set_slice_whole _ _
theorem wrow_set (b : Fin 8) : (wrow b).view.set = (Rect.unit (s := S4096x2048) ![512 * b.val, 0] S512x2048.size (wrow_inb b)).set :=
  View.set_slice_whole _ _
theorem comm_set (b : Fin 8) : (comm b).view.set = (Rect.unit (s := S8x512x512) ![b.val, 0, 0] S1x512x512.size (comm_inb b)).set :=
  (View.set_reshape _ _).trans (View.set_slice_whole _ _)
theorem wslot_set (b : Fin 2) : (wslot b).view.set = (Rect.unit (s := S2x512x2048) ![b.val, 0, 0] S1x512x2048.size (wslot_inb b)).set :=
  (View.set_reshape _ _).trans (View.set_slice_whole _ _)

theorem fin2_ne_zero {a : Fin 2} (h : a ≠ 0) : a = 1 := by omega
theorem fin3_ne_zero {a : Fin 3} (h : a ≠ 0) : a = 1 ∨ a = 2 := by omega

theorem xrow_disj (b b' : Fin 8) (h : b ≠ b') : Disjoint (xrow b).view.set (xrow b').view.set := by
  rw [xrow_set, xrow_set]
  exact Ring.lead_disjoint (s := S4096x512) (0 : Fin 2) 512 (fun b : Fin 8 => ![512 * b.val, 0]) S512x512.size xrow_inb (fun _ => rfl) rfl b b' h
theorem xrow_cover : Finset.biUnion (β := S4096x512.Idx) Finset.univ (fun b : Fin 8 => (xrow b).view.set) = Finset.univ :=
  (congrArg (Finset.biUnion (β := S4096x512.Idx) Finset.univ) (funext xrow_set)).trans
    (Ring.lead_cover (s := S4096x512) (0 : Fin 2) 512 (fun b : Fin 8 => ![512 * b.val, 0]) S512x512.size xrow_inb (fun _ => rfl)
      (fun _ a ha => by rw [fin2_ne_zero ha]; rfl) rfl (fun a ha => by rw [fin2_ne_zero ha]; rfl) rfl)
theorem wrow_disj (b b' : Fin 8) (h : b ≠ b') : Disjoint (wrow b).view.set (wrow b').view.set := by
  rw [wrow_set, wrow_set]
  exact Ring.lead_disjoint (s := S4096x2048) (0 : Fin 2) 512 (fun b : Fin 8 => ![512 * b.val, 0]) S512x2048.size wrow_inb (fun _ => rfl) rfl b b' h
theorem wrow_cover : Finset.biUnion (β := S4096x2048.Idx) Finset.univ (fun b : Fin 8 => (wrow b).view.set) = Finset.univ :=
  (congrArg (Finset.biUnion (β := S4096x2048.Idx) Finset.univ) (funext wrow_set)).trans
    (Ring.lead_cover (s := S4096x2048) (0 : Fin 2) 512 (fun b : Fin 8 => ![512 * b.val, 0]) S512x2048.size wrow_inb (fun _ => rfl)
      (fun _ a ha => by rw [fin2_ne_zero ha]; rfl) rfl (fun a ha => by rw [fin2_ne_zero ha]; rfl) rfl)
theorem comm_disj (b b' : Fin 8) (h : b ≠ b') : Disjoint (comm b).view.set (comm b').view.set := by
  rw [comm_set, comm_set]
  exact Ring.lead_disjoint (s := S8x512x512) (0 : Fin 3) 1 (fun b : Fin 8 => ![b.val, 0, 0]) S1x512x512.size comm_inb
    (fun b => (Nat.one_mul b.val).symm) rfl b b' h
theorem comm_cover : Finset.biUnion (β := S8x512x512.Idx) Finset.univ (fun b : Fin 8 => (comm b).view.set) = Finset.univ :=
  (congrArg (Finset.biUnion (β := S8x512x512.Idx) Finset.univ) (funext comm_set)).trans
    (Ring.lead_cover (s := S8x512x512) (0 : Fin 3) 1 (fun b : Fin 8 => ![b.val, 0, 0]) S1x512x512.size comm_inb
      (fun b => (Nat.one_mul b.val).symm)
      (fun _ a ha => by rcases fin3_ne_zero ha with h | h <;> rw [h] <;> rfl) rfl
      (fun a ha => by rcases fin3_ne_zero ha with h | h <;> rw [h] <;> rfl) rfl)
theorem wslot_disj (b b' : Fin 2) (h : b ≠ b') : Disjoint (wslot b).view.set (wslot b').view.set := by
  rw [wslot_set, wslot_set]
  exact Ring.lead_disjoint (s := S2x512x2048) (0 : Fin 3) 1 (fun b : Fin 2 => ![b.val, 0, 0]) S1x512x2048.size wslot_inb
    (fun b => (Nat.one_mul b.val).symm) rfl b b' h
theorem wslot_cover : Finset.biUnion (β := S2x512x2048.Idx) Finset.univ (fun b : Fin 2 => (wslot b).view.set) = Finset.univ :=
  (congrArg (Finset.biUnion (β := S2x512x2048.Idx) Finset.univ) (funext wslot_set)).trans
    (Ring.lead_cover (s := S2x512x2048) (0 : Fin 3) 1 (fun b : Fin 2 => ![b.val, 0, 0]) S1x512x2048.size wslot_inb
      (fun b => (Nat.one_mul b.val).symm)
      (fun _ a ha => by rcases fin3_ne_zero ha with h | h <;> rw [h] <;> rfl) rfl
      (fun a ha => by rcases fin3_ne_zero ha with h | h <;> rw [h] <;> rfl) rfl)

/-! ## Whole and by blocks -/

/-- The cast of `x`, whole, is its eight row blocks. -/
theorem xbf_split (c : Dev nD) :
    (((c : Thread nD τ).loc cc0_scratch0 ↦{fullShare} xbf m c) : sProp 𝕄) = bigSep Finset.univ (xrowPts m c) :=
  Ring.pointsTo_blocks (ℓ := (c : Thread nD τ).loc cc0_scratch0) (fun b : Fin 8 => (xrow b).view.set) xrow_disj xrow_cover (xbf m c)
/-- The copy of `w`, whole, is its eight row blocks. -/
theorem w_split (c : Dev nD) :
    (((c : Thread nD τ).loc main_arg1 ↦{fullShare} wv m c) : sProp 𝕄) = bigSep Finset.univ (wrowPts m c) :=
  Ring.pointsTo_blocks (ℓ := (c : Thread nD τ).loc main_arg1) (fun b : Fin 8 => (wrow b).view.set) wrow_disj wrow_cover (wv m c)
omit [FloatOps F] in
/-- The landing buffer, whole, is its eight slots; -/
theorem comm_split (c : Dev nD) (f : Buf (Elt F) ((c : Thread nD τ).loc cc0_scratch1)) :
    (((c : Thread nD τ).loc cc0_scratch1 ↦{fullShare} f) : sProp 𝕄) = bigSep Finset.univ (fun b => commPts c b f) :=
  Ring.pointsTo_blocks (ℓ := (c : Thread nD τ).loc cc0_scratch1) (fun b : Fin 8 => (comm b).view.set) comm_disj comm_cover f
omit [FloatOps F] in
/-- and eight slots, each at some contents, are the buffer at some contents. -/
theorem comm_join (c : Dev nD) (f₀ : Buf (Elt F) ((c : Thread nD τ).loc cc0_scratch1)) :
    bigSep Finset.univ (fun b : Fin 8 => iprop(∃ f, commPts (F := F) c b f)) ⊢ (iprop(∃ g, (c : Thread nD τ).loc cc0_scratch1 ↦{fullShare} g) : sProp 𝕄) :=
  Ring.pointsTo_blocks_join_exists (ℓ := (c : Thread nD τ).loc cc0_scratch1) (fun b : Fin 8 => (comm b).view.set) comm_disj comm_cover f₀
omit [FloatOps F] in
/-- The streaming buffer, whole, is its two slots; -/
theorem wslot_split (c : Dev nD) (f : Buf (Elt F) ((c : Thread nD τ).loc cc0_scratch2)) :
    (((c : Thread nD τ).loc cc0_scratch2 ↦{fullShare} f) : sProp 𝕄) = bigSep Finset.univ (fun b => wslotPts c b f) :=
  Ring.pointsTo_blocks (ℓ := (c : Thread nD τ).loc cc0_scratch2) (fun b : Fin 2 => (wslot b).view.set) wslot_disj wslot_cover f
omit [FloatOps F] in
/-- and two slots, each at some contents, are the buffer at some contents. -/
theorem wslot_join (c : Dev nD) (f₀ : Buf (Elt F) ((c : Thread nD τ).loc cc0_scratch2)) :
    bigSep Finset.univ (fun b : Fin 2 => iprop(∃ f, wslotPts (F := F) c b f)) ⊢ (iprop(∃ g, (c : Thread nD τ).loc cc0_scratch2 ↦{fullShare} g) : sProp 𝕄) :=
  Ring.pointsTo_blocks_join_exists (ℓ := (c : Thread nD τ).loc cc0_scratch2) (fun b : Fin 2 => (wslot b).view.set) wslot_disj wslot_cover f₀

/-! ## The devices in a device's own orders -/

theorem tg_inj (c : Dev nD) : Set.InjOn (tg c) (Finset.Ico 0 7 : Finset ℕ) := by
  intro a ha b hb h
  have ha := (Finset.mem_Ico.mp (Finset.mem_coe.mp ha)).2
  have hb := (Finset.mem_Ico.mp (Finset.mem_coe.mp hb)).2
  have h' : (c.val + a + 1) % 8 = (c.val + b + 1) % 8 := congrArg Fin.val h
  omega
theorem sc_inj (c : Dev nD) : Set.InjOn (sc c) (Finset.Ico 0 8 : Finset ℕ) := by
  intro a ha b hb h
  have ha := (Finset.mem_Ico.mp (Finset.mem_coe.mp ha)).2
  have hb := (Finset.mem_Ico.mp (Finset.mem_coe.mp hb)).2
  have h' : (c.val + 8 - a) % 8 = (c.val + 8 - b) % 8 := congrArg Fin.val h
  omega
theorem tg_image (c : Dev nD) : (Finset.Ico 0 7).image (tg c) = Finset.univ.erase c := by revert c; decide
theorem sc_image (c : Dev nD) : (Finset.Ico 0 8).image (sc c) = Finset.univ := by revert c; decide
theorem tg_ne (c : Dev nD) {r : ℕ} (h : r < 7) : tg c r ≠ c := by
  intro e; have e' : (c.val + r + 1) % 8 = c.val := congrArg Fin.val e; have hc : c.val < 8 := c.isLt; omega
theorem ne_tg (c : Dev nD) {r : ℕ} (h : r < 7) : c ≠ tg c r := (tg_ne c h).symm
theorem sc_ne (c : Dev nD) {t : ℕ} (h0 : 0 < t) (h : t < 8) : sc c t ≠ c := by
  intro e; have e' : (c.val + 8 - t) % 8 = c.val := congrArg Fin.val e; have hc : c.val < 8 := c.isLt; omega

omit [FloatOps F] in
/-- A family over the other devices, in the order `c` sends to them. -/
theorem others_tg (c : Dev nD) (Φ : Dev nD → sProp 𝕄) : bigSep (Finset.univ.erase c) Φ = bigSep (Finset.Ico 0 7) (fun r => Φ (tg c r)) := by
  rw [← tg_image, bigSep_image_of_injOn (tg_inj c)]
omit [FloatOps F] in
/-- A family over all devices: `c`'s member, and the others in the order `c` sends to them. -/
theorem all_tg (c : Dev nD) (Φ : Dev nD → sProp 𝕄) : bigSep Finset.univ Φ = iprop(Φ c ∗ bigSep (Finset.Ico 0 7) (fun r => Φ (tg c r))) := by
  rw [bigSep_univ_at Φ c, others_tg]
omit [FloatOps F] in
/-- A family over all devices, in the order `c` multiplies their blocks. -/
theorem all_sc (c : Dev nD) (Φ : Dev nD → sProp 𝕄) : bigSep Finset.univ Φ = bigSep (Finset.Ico 0 8) (fun t => Φ (sc c t)) := by
  rw [← sc_image c, bigSep_image_of_injOn (sc_inj c)]

/-! ## What the kernel's loads read -/

theorem hz2 : (![0, 0] : Fin 2 → Nat) = fun _ => 0 := funext fun a => by fin_cases a <;> rfl

/-- A load of slot `b` of the landing buffer, its unit axis dropped, reads the slot. -/
theorem read_comm (b : Fin 8) {off : Fin 3 → ℕ} (h : off = ![b.val, 0, 0]) (inb : ∀ a, off a + S1x512x512.size a ≤ S8x512x512.size a)
    (f : (cc0_scratch1 : Ref sig .tc).ty.Contents (Elt F)) :
    shapeCast S512x512 (commM.view.readAt (Elt F) (Rect.unit (s := S8x512x512) off S1x512x512.size inb).toLoadRect f) shapeCasts_S1x512x512_S512x512
      = (comm b).view.read (Elt F) f := by
  subst h; rfl
/-- A load of slot `b` of the streaming buffer, its unit axis dropped, reads the slot. -/
theorem read_wslot (b : Fin 2) {off : Fin 3 → ℕ} (h : off = ![b.val, 0, 0]) (inb : ∀ a, off a + S1x512x2048.size a ≤ S2x512x2048.size a)
    (f : (cc0_scratch2 : Ref sig .tc).ty.Contents (Elt F)) :
    shapeCast S512x2048 (wblkM.view.readAt (Elt F) (Rect.unit (s := S2x512x2048) off S1x512x2048.size inb).toLoadRect f) shapeCasts_S1x512x2048_S512x2048
      = (wslot b).view.read (Elt F) f := by
  subst h; rfl
/-- A load of row block `b` of the cast of `x` reads the block. -/
theorem read_xrow (b : Fin 8) {off : Fin 2 → ℕ} (h : off = ![512 * b.val, 0]) (inb : ∀ a, off a + S512x512.size a ≤ S4096x512.size a)
    (f : (cc0_scratch0 : Ref sig .tc).ty.Contents (Elt F)) :
    xbfM.view.readAt (Elt F) (Rect.unit (s := S4096x512) off S512x512.size inb).toLoadRect f = (xrow b).view.read (Elt F) f := by
  subst h; rfl

theorem comm_sub (b : Fin 8) {off : Fin 3 → ℕ} (h : off = ![b.val, 0, 0]) (inb : ∀ a, off a + S1x512x512.size a ≤ S8x512x512.size a) :
    commM.view.setOn (Rect.unit (s := S8x512x512) off S1x512x512.size inb).toLoadRect.set ⊆ (comm b).view.set := by
  subst h; rw [comm_set]; exact subset_of_eq (Finset.map_refl)
theorem wslot_sub (b : Fin 2) {off : Fin 3 → ℕ} (h : off = ![b.val, 0, 0]) (inb : ∀ a, off a + S1x512x2048.size a ≤ S2x512x2048.size a) :
    wblkM.view.setOn (Rect.unit (s := S2x512x2048) off S1x512x2048.size inb).toLoadRect.set ⊆ (wslot b).view.set := by
  subst h; rw [wslot_set]; exact subset_of_eq (Finset.map_refl)
theorem xrow_sub (b : Fin 8) {off : Fin 2 → ℕ} (h : off = ![512 * b.val, 0]) (inb : ∀ a, off a + S512x512.size a ≤ S4096x512.size a) :
    xbfM.view.setOn (Rect.unit (s := S4096x512) off S512x512.size inb).toLoadRect.set ⊆ (xrow b).view.set := by
  subst h; rw [xrow_set]; exact subset_of_eq (Finset.map_refl)

end Cert.Exchange
-- ==== Proof.Steps.lean ====
/-
# The steps of the exchange

One lemma for each kind of step of the kernel's body: a barrier signal, the barrier wait, the start of a remote copy, the wait
for its source side, the start of a streamed block of `w`, and a multiplication step. Each takes the operation as it stands in
the program, with equations that say which block, slot, semaphore or device it names.
-/
module

public import proofs.«01_k».proof.Proof.Split
public import Idealize.SL.BI.BigOpNat

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device, and the facts about all of them -/

/-- The cells of a device: its barrier, its send and receive semaphores and its two streaming semaphores. -/
abbrev Key : Type := Unit ⊕ (Fin 8 ⊕ (Fin 8 ⊕ Fin 2))
abbrev kBar : Key := .inl ()
abbrev kSend (t : Fin 8) : Key := .inr (.inl t)
abbrev kRecv (s : Fin 8) : Key := .inr (.inr (.inl s))
abbrev kW (b : Fin 2) : Key := .inr (.inr (.inr b))
def csem : Key → SemLoc sig
  | .inl _ => .reg barS
  | .inr (.inl t) => .dma (sendQ t)
  | .inr (.inr (.inl s)) => .dma (recvQ s)
  | .inr (.inr (.inr b)) => .dma (wQ b)
def kcell (ck : Dev nD × Key) : GSem nD τ sig := ((ck.1 : Thread nD τ), csem ck.2)

variable (K : Dev nD × Key → ℕ)

/-- Every cell's invariant, at the name `K` gives it, and that every cell's round 0 is reached. -/
def recs : sProp 𝕄 :=
  iprop(bigSep Finset.univ (fun ck => cellInv ER (xRd m) (K ck) (kcell ck)) ∗ bigSep Finset.univ (fun ck => reached ER (kcell ck) 0))

instance recs_persistent : BI.Persistent (recs m K) := by unfold recs; infer_instance

theorem recs_inv (ck : Dev nD × Key) : (recs m K : sProp 𝕄) ⊢ cellInv ER (xRd m) (K ck) (kcell ck) := by
  unfold recs

  exact (sep_mono_left (bigSep_elim (Finset.mem_univ ck))).trans sep_elim_left
theorem recs_reached (ck : Dev nD × Key) : (recs m K : sProp 𝕄) ⊢ reached ER (kcell ck) 0 := by
  unfold recs

  exact (sep_mono_right (bigSep_elim (Finset.mem_univ ck))).trans sep_elim_right

abbrev 𝒱₀ : Variants := Variants.none

/-- What device `c` owes is `O`, whatever it waited on. -/
def ow (c : Dev nD) (O : CellTallies nD τ sig Unit) : sProp 𝕄 := iprop(∃ W, owes (c : Thread nD τ) O W)

theorem oweB_step (c : Dev nD) {r : ℕ} (h : r < 7) : oweB c (7 - r) = oweB c (7 - (r + 1)) + tallyAt (barCell (tg c r)) () 1 := by
  obtain ⟨n, hn⟩ : ∃ n, 7 - r = n + 1 := ⟨6 - r, by omega⟩
  rw [hn, show 7 - (r + 1) = n by omega, oweB, show 6 - n = r by omega]
theorem oweR_step (c : Dev nD) {r : ℕ} (h : r < 7) : oweR c (7 - r) = oweR c (7 - (r + 1)) + tallyAt (recvCell (tg c r) c) () N := by
  obtain ⟨n, hn⟩ : ∃ n, 7 - r = n + 1 := ⟨6 - r, by omega⟩
  rw [hn, show 7 - (r + 1) = n by omega, oweR, show 6 - n = r by omega]

section Steps
variable (c : Dev nD)

/-! ## The barrier -/

/-- Before signal `r`: the signals from `r` on are owed, each with its token and the slot it hands over. -/
def sigSt (r : ℕ) : sProp 𝕄 :=
  iprop(ow c (oweB c (7 - r)) ∗ bigSep (Finset.Ico r 7) (fun r => iprop(dutyTok ER (barCell (tg c r)) 0 c ∗ barPay (tg c r) c)))

theorem step_signal (r : ℕ) (hr : r < 7) {n : Dev nD} (hn : n = tg c r) {z : ℤ} (hz : z = ((1 : ℕ) : ℤ))
    {α : Type} {Q : α → sProp 𝕄} {k : PUnit → Prog (TpuEff nD τ sig (Elt F) Λ₀ .tc) α} :
    iprop(recs m K ∗ sigSt c r)
      ⊢ iprop((sigSt c (r + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS z) k) Q) := by
  subst hn hz
  unfold sigSt ow
  rw [bigSep_Ico_succ_bot hr]
  iintro ⟨#Hr, ⟨%W, HO⟩, ⟨Ht, Hp⟩, Hrest⟩ Hk
  iapply (Rounds.wp_signal 𝒱₀ ER (xRd m) (c : Thread nD τ) none (dst := (tg c r : Thread nD τ)) (κ := K (tg c r, kBar))
      (d := c) (by rw [duties_bar]; exact Finset.mem_erase.mpr ⟨ne_tg c hr, Finset.mem_univ _⟩) (amount_bar m (tg c r) 0 c) () _ (oweB_step c hr))
    $$ [HO Ht Hp]
  · isplitr; · iapply (recs_inv m K (tg c r, kBar)); iexact Hr
    isplitl [HO]; · iexact HO
    isplitl [Ht]; · iexact Ht
    isplitl [Hp]; · rw [payload_bar]; iexact Hp
    iapply (recs_reached m K (tg c r, kBar)); iexact Hr
  iintro HO
  iapply Hk
  isplitl [HO]; · iexists W; iexact HO
  iexact Hrest

/-- The barrier wait: the other devices hand over their slots for `c`. -/
theorem step_barrier {z : ℤ} (hz : z = ((7 : ℕ) : ℤ))
    {α : Type} {Q : α → sProp 𝕄} {k : PUnit → Prog (TpuEff nD τ sig (Elt F) Λ₀ .tc) α} :
    iprop(recs m K ∗ levAts L lv ∗ ow c (oweR c 7) ∗ cred (tallyAt (barCell c) () 7) ∗ atPos ER (barCell c) 0 ∅ 0)
      ⊢ iprop((iprop(ow c (oweR c 7) ∗ atPos ER (barCell c) 1 ∅ 0 ∗ bigSep (Finset.Ico 0 7) (fun r => barPay c (tg c r)))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS z) k) Q) := by
  subst hz
  unfold ow
  iintro ⟨#Hr, #Hlev, ⟨%W, HO⟩, Hc, Hat⟩ Hk
  iapply (Rounds.wp_wait_rest_token 𝒱₀ ER (xRd m) (c : Thread nD τ) none (κ := K (c, kBar))
      (wpE_semWait_eq 𝒱₀ (c : Thread nD τ) none Set.univ) (Set.mem_univ _) () (O := oweR c 7) (W := W) (R := 0) (m := 0) (T := ∅)
      (by rw [expect_bar])) $$ [Hc HO Hat]
  · isplitr; · iapply (recs_inv m K (c, kBar)); iexact Hr
    isplitl [Hc]; · iexact Hc
    isplitl [HO]; · iexact HO
    isplitr; · iapply (mayWait_bar c); iexact Hlev
    iexact Hat
  iintro ⟨HO, Hat, -, Hpay⟩
  ihave Hp := (Entails.of_eq ((rest_bar m c).trans (others_tg c _))) $$ Hpay
  iapply Hk
  isplitl [HO]; · iexists _; iexact HO
  isplitl [Hat]; · iexact Hat
  iexact Hp

/-! ## The remote copies -/

/-- Before copy `r`: the copies from `r` on are owed, each with its row block, the slot it lands in and its two tokens; the
    credits of the earlier ones' source sides are held. -/
def sendSt (r : ℕ) : sProp 𝕄 :=
  iprop(ow c (oweR c (7 - r))
    ∗ bigSep (Finset.Ico r 7) (fun r => iprop(xrowPts m c (tg c r) ∗ barPay c (tg c r) ∗ dutyTok ER (sendCell c (tg c r)) 0 0 ∗ dutyTok ER (recvCell (tg c r) c) 0 0))
    ∗ bigSep (Finset.Ico 0 r) (fun r => cred (tallyAt (sendCell c (tg c r)) () N)))

theorem step_send (r : ℕ) (hr : r < 7) {n : Dev nD} (hn : n = tg c r) {src : Memref sig .tc .vmem S512x512 .bf16} (hsrc : src = xrow (tg c r))
    {dst : Memref sig .tc .vmem S512x512 .bf16} (hdst : dst = comm c) {sq rq : DmaSem sig} (hsq : sq = sendQ (tg c r)) (hrq : rq = recvQ c)
    {hsc : (dst : Memref sig (Dev.tc n : Thread nD τ).2.kind .vmem S512x512 .bf16).view.ref.isScScratch = false}
    {h1 : src.view.WordExact} {h2 : dst.view.WordExact}
    {h3 : DmaTarget.Typed .vmem (.dma rq) (.remote (Dev.tc n : Thread nD τ) dst (.dma sq) hsc)}
    {α : Type} {Q : α → sProp 𝕄} {k : PUnit → Prog (TpuEff nD τ sig (Elt F) Λ₀ .tc) α} :
    iprop(recs m K ∗ sendSt m c r)
      ⊢ iprop((sendSt m c (r + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sq) hsc) (.dma rq) h1 h2 h3) k) Q) := by
  subst hn hsrc hdst hsq hrq
  unfold sendSt ow
  rw [bigSep_Ico_succ_bot hr, bigSep_Ico_succ_top (Nat.zero_le r)]
  unfold barPay
  iintro ⟨#Hr, ⟨%W, HO⟩, ⟨⟨Hx, ⟨%f, Hc⟩, Hts, Htr⟩, Hrest⟩, Hdone⟩ Hk
  unfold xrowPts commPts
  iapply (Rounds.wp_send_pointsTo 𝒱₀ ER (xRd m) (c : Thread nD τ) none (κ₁ := K (c, kSend (tg c r))) (κ₂ := K (tg c r, kRecv c))
      (r₁ := 0) (r₂ := 0) (d₁ := 0) (d₂ := 0) (fd := f)
      (by rw [duties_send m c _ (tg_ne c hr)]; exact Finset.mem_singleton_self _)
      (by rw [duties_recv m (tg c r) c (ne_tg c hr)]; exact Finset.mem_singleton_self _)
      () () N rfl (amount_send m c _ 0 0) (amount_recv m (tg c r) c 0 0) _ (oweR_step c hr) (W := W)
      (by rw [payload_send]; exact BI.Entails.refl _)
      (by
        rw [payload_recv]
        unfold recvPay commPts
        iintro H
        iexists ((comm c).view.write (Elt F) f ((xrow (tg c r)).view.read (Elt F) (xbf m c)) Finset.univ)
        isplitr
        · ipureintro; exact View.read_write_univ _ _
        iexact H))
    $$ [HO Hx Hc Hts Htr]
  · isplitr; · iapply (recs_inv m K (c, kSend (tg c r))); iexact Hr
    isplitr; · iapply (recs_inv m K (tg c r, kRecv c)); iexact Hr
    isplitl [Hx]; · iexact Hx
    isplitl [Hc]; · iexact Hc
    isplitl [HO]; · iexact HO
    isplitl [Hts]; · iexact Hts
    isplitr; · iapply (recs_reached m K (c, kSend (tg c r))); iexact Hr
    isplitl [Htr]; · iexact Htr
    iapply (recs_reached m K (tg c r, kRecv c)); iexact Hr
  iintro ⟨Hc, HO⟩
  iapply Hk
  isplitl [HO]; · iexists W; iexact HO
  isplitl [Hrest]; · iexact Hrest
  isplitl [Hc]; · iexact Hc
  iexact Hdone

/-- Before the wait for the source side of copy `r`: the waits from `r` on hold their credits; the earlier ones have given
    the row blocks back. -/
def backSt (r : ℕ) : sProp 𝕄 :=
  iprop(ow c 0 ∗ bigSep (Finset.Ico r 7) (fun r => iprop(cred (tallyAt (sendCell c (tg c r)) () N) ∗ atPos ER (sendCell c (tg c r)) 0 ∅ 0))
    ∗ bigSep (Finset.Ico 0 r) (fun r => iprop(atPos ER (sendCell c (tg c r)) 1 ∅ 0 ∗ xrowPts m c (tg c r))))

theorem step_back (r : ℕ) (hr : r < 7) {sq : DmaSem sig} (hsq : sq = sendQ (tg c r)) {src : Memref sig .tc .vmem S512x512 .bf16}
    {dst : Memref sig .tc .vmem S512x512 .bf16} (hdst : dst = xrow (tg c r)) {h1 : src.view.WordExact} {h2 : dst.view.WordExact}
    {α : Type} {Q : α → sProp 𝕄} {k : PUnit → Prog (TpuEff nD τ sig (Elt F) Λ₀ .tc) α} :
    iprop(recs m K ∗ backSt m c r)
      ⊢ iprop((backSt m c (r + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sq src dst h1 h2) k) Q) := by
  subst hsq hdst
  unfold backSt ow
  rw [bigSep_Ico_succ_bot hr, bigSep_Ico_succ_top (Nat.zero_le r)]
  iintro ⟨#Hr, ⟨%W, HO⟩, ⟨⟨Hc, Hat⟩, Hrest⟩, Hdone⟩ Hk
  iapply (Rounds.wp_wait_rest_token 𝒱₀ ER (xRd m) (c : Thread nD τ) none (κ := K (c, kSend (tg c r)))
      (wpE_waitDma2_eq 𝒱₀ (c : Thread nD τ) none Set.univ) (Set.mem_univ _) () (O := 0) (W := W) (R := 0) (m := 0) (T := ∅)
      (by rw [expect_send m c _ (tg_ne c hr), credit_xrow, Nat.zero_add])) $$ [Hc HO Hat]
  · isplitr; · iapply (recs_inv m K (c, kSend (tg c r))); iexact Hr
    isplitl [Hc]; · iexact Hc
    isplitl [HO]; · iexact HO
    isplitr; · rw [MayWait_zero]; iempintro
    iexact Hat
  iintro ⟨HO, Hat, -, Hpay⟩
  ihave Hp := (Entails.of_eq (rest_send m c _ (tg_ne c hr))) $$ Hpay
  iapply Hk
  isplitl [HO]; · iexists _; iexact HO
  isplitl [Hrest]; · iexact Hrest
  isplitl [Hat Hp]
  · isplitl [Hat]; · iexact Hat
    unfold sendPay; iexact Hp
  iexact Hdone

/-! ## The streamed blocks of `w` -/

theorem f2_add_two (t : ℕ) : f2 (t + 2) = f2 t := Fin.ext (Nat.add_mod_right t 2)
theorem half_add_two (t : ℕ) : (t + 2) / 2 = t / 2 + 1 := by omega
theorem half_step (t : ℕ) : 2 * (t / 2) + (f2 t).val = t := by show 2 * (t / 2) + t % 2 = t; omega
theorem half_lt {t : ℕ} (h : t < 8) : t / 2 < 4 := by omega

/-- What the copy of step `t` takes: its token and the row block of `w` it reads. -/
def startItem (t : ℕ) : sProp 𝕄 := iprop(dutyTok ER (wCell c (f2 t)) (t / 2) 0 ∗ wrowPts m c (sc c t))
/-- The streaming slot of step `t`: before the wait of the step, its copy in flight — or, the steps over, its slot at rest. -/
def flying (t : ℕ) : sProp 𝕄 :=
  iprop(atPos ER (wCell c (f2 t)) (t / 2) ∅ 0 ∗ if t < 8 then cred (tallyAt (wCell c (f2 t)) () M) else iprop(∃ f, wslotPts c (f2 t) f))

theorem step_start (t : ℕ) (ht : t < 8) {src : Memref sig .tc .hbm S512x2048 .f32} (hsrc : src = wrow (sc c t))
    {dst : Memref sig .tc .vmem S512x2048 .f32} (hdst : dst = wslot (f2 t)) {q : DmaSem sig} (hq : q = wQ (f2 t))
    {h1 : src.view.WordExact} {h2 : dst.view.WordExact} {h3 : DmaTarget.Typed .hbm (.dma q) (DmaTarget.here dst : DmaTarget nD τ sig (.tc : Proc τ) .vmem S512x2048 .f32)}
    {α : Type} {Q : α → sProp 𝕄} {k : PUnit → Prog (TpuEff nD τ sig (Elt F) Λ₀ .tc) α} :
    iprop(recs m K ∗ startItem m c t ∗ reached ER (wCell c (f2 t)) (t / 2) ∗ (∃ f, wslotPts c (f2 t) f))
      ⊢ iprop((cred (tallyAt (wCell c (f2 t)) () M) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma q) h1 h2 h3) k) Q) := by
  subst hsrc hdst hq
  unfold startItem
  iintro ⟨#Hr, ⟨Ht, Hw⟩, #Hre, ⟨%f, Hs⟩⟩ Hk
  unfold wrowPts wslotPts
  iapply (Rounds.wp_copy_pointsTo 𝒱₀ ER (xRd m) (c : Thread nD τ) none (κ := K (c, kW (f2 t))) (r := t / 2) (d := 0) (fd := f)
      (by rw [duties_w m c _ _ (half_lt ht)]; exact Finset.mem_singleton_self _) () M rfl (amount_w m c _ _ 0)
      (by
        rw [payload_w, half_step]
        unfold wPay wslotPts wrowPts
        iintro ⟨Hs, Hw⟩
        isplitl [Hs]
        · iexists ((wslot (f2 t)).view.write (Elt F) f ((wrow (sc c t)).view.read (Elt F) (wv m c)) Finset.univ)
          isplitr
          · ipureintro; exact View.read_write_univ _ _
          iexact Hs
        iexact Hw))
    $$ [Ht Hw Hs]
  · isplitr; · iapply (recs_inv m K (c, kW (f2 t))); iexact Hr
    isplitl [Hw]; · iexact Hw
    isplitl [Hs]; · iexact Hs
    isplitl [Ht]; · iexact Ht
    iexact Hre
  iintro Hc
  iapply Hk; iexact Hc

theorem step_arrived (t : ℕ) (ht : t < 8) {q : DmaSem sig} (hq : q = wQ (f2 t)) {src : Memref sig .tc .hbm S512x2048 .f32}
    {dst : Memref sig .tc .vmem S512x2048 .f32} (hdst : dst = wslot (f2 t)) {h1 : src.view.WordExact} {h2 : dst.view.WordExact}
    {α : Type} {Q : α → sProp 𝕄} {k : PUnit → Prog (TpuEff nD τ sig (Elt F) Λ₀ .tc) α} :
    iprop(recs m K ∗ ow c 0 ∗ flying c t)
      ⊢ iprop((iprop(ow c 0 ∗ atPos ER (wCell c (f2 t)) (t / 2 + 1) ∅ 0 ∗ reached ER (wCell c (f2 t)) (t / 2 + 1) ∗ wPay m c (f2 t) t)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h1 h2) k) Q) := by
  subst hq hdst
  unfold flying ow
  rw [if_pos ht]
  iintro ⟨#Hr, ⟨%W, HO⟩, Hat, Hc⟩ Hk
  iapply (Rounds.wp_wait_rest_token 𝒱₀ ER (xRd m) (c : Thread nD τ) none (κ := K (c, kW (f2 t)))
      (wpE_waitDma2_eq 𝒱₀ (c : Thread nD τ) none Set.univ) (Set.mem_univ _) () (O := 0) (W := W) (R := t / 2) (m := 0) (T := ∅)
      (by rw [expect_w m c _ _ (half_lt ht), credit_wslot, Nat.zero_add])) $$ [Hc HO Hat]
  · isplitr; · iapply (recs_inv m K (c, kW (f2 t))); iexact Hr
    isplitl [Hc]; · iexact Hc
    isplitl [HO]; · iexact HO
    isplitr; · rw [MayWait_zero]; iempintro
    iexact Hat
  iintro ⟨HO, Hat, #Hre, Hpay⟩
  ihave Hp := (Entails.of_eq ((rest_w m c _ _ (half_lt ht)).trans (congrArg (wPay m c (f2 t)) (half_step t)))) $$ Hpay
  iapply Hk
  isplitl [HO]; · iexists _; iexact HO
  isplitl [Hat]; · iexact Hat
  isplitr; · iexact Hre
  iexact Hp

theorem step_landed (s : Fin 8) (hs : s ≠ c) {q : DmaSem sig} (hq : q = recvQ s) {src : Memref sig .tc .vmem S512x512 .bf16}
    {dst : Memref sig .tc .vmem S512x512 .bf16} (hdst : dst = comm s) {h1 : src.view.WordExact} {h2 : dst.view.WordExact}
    {α : Type} {Q : α → sProp 𝕄} {k : PUnit → Prog (TpuEff nD τ sig (Elt F) Λ₀ .tc) α} :
    iprop(recs m K ∗ ow c 0 ∗ cred (tallyAt (recvCell c s) () N) ∗ atPos ER (recvCell c s) 0 ∅ 0)
      ⊢ iprop((iprop(ow c 0 ∗ atPos ER (recvCell c s) 1 ∅ 0 ∗ recvPay m c s)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h1 h2) k) Q) := by
  subst hq hdst
  unfold ow
  iintro ⟨#Hr, ⟨%W, HO⟩, Hc, Hat⟩ Hk
  iapply (Rounds.wp_wait_rest_token 𝒱₀ ER (xRd m) (c : Thread nD τ) none (κ := K (c, kRecv s))
      (wpE_waitDma2_eq 𝒱₀ (c : Thread nD τ) none Set.univ) (Set.mem_univ _) () (O := 0) (W := W) (R := 0) (m := 0) (T := ∅)
      (by rw [expect_recv m c _ hs, credit_comm, Nat.zero_add])) $$ [Hc HO Hat]
  · isplitr; · iapply (recs_inv m K (c, kRecv s)); iexact Hr
    isplitl [Hc]; · iexact Hc
    isplitl [HO]; · iexact HO
    isplitr; · rw [MayWait_zero]; iempintro
    iexact Hat
  iintro ⟨HO, Hat, -, Hpay⟩
  ihave Hp := (Entails.of_eq (rest_recv m c _ hs)) $$ Hpay
  iapply Hk
  isplitl [HO]; · iexists _; iexact HO
  isplitl [Hat]; · iexact Hat
  iexact Hp

/-! ## The multiplications -/

/-- The product of a block of `x` and the bfloat16 cast of a block of `w`, accumulated in float32. -/
def mulV (A : S512x512.Idx → Elt F .bf16) (W : S512x2048.Idx → Elt F .f32) : FVec F S512x2048 .f32 :=
  matmul dot_S512x512_S512x2048_S512x2048_1_0_0_1_n_n none (A : FVec F S512x512 .bf16) (truncf .bf16 (W : FVec F S512x2048 .f32) bitsLt_bf16_f32)
    (constant S512x2048 .f32 0x00000000#32)
/-- A sum so far with one product added. -/
def addV (o : S512x2048.Idx → Elt F .f32) (A : S512x512.Idx → Elt F .bf16) (W : S512x2048.Idx → Elt F .f32) : FVec F S512x2048 .f32 :=
  addf (shapeCast S512x2048 (o : FVec F S512x2048 .f32) shapeCasts_S512x2048_S512x2048) (mulV A W)

/-- The sum after step `t`. -/
def accV : ℕ → FVec F S512x2048 .f32
  | 0 => mulV (xblock m c c) (wblock m c c)
  | t + 1 => addV (accV t) (xblock m (sc c (t + 1)) c) (wblock m c (sc c (t + 1)))

/-- The result's buffer holds `o`. -/
def outPts (o : (cc0_stg1_0 : Ref sig .tc).ty.Contents (Elt F)) : sProp 𝕄 := (c : Thread nD τ).loc cc0_stg1_0 ↦{fullShare} o

theorem read_out (f : (cc0_stg1_0 : Ref sig .tc).ty.Contents (Elt F)) :
    oM.view.readAt (Elt F) (Rect.unit (s := S512x2048) ![0, 0] S512x2048.size inb_S512x2048_S512x2048_0_0).toLoadRect f = f :=
  Memref.readAt_unit_zero (Elt F) cc0_stg1_0 hz2 _ f
theorem write_out (f w : (cc0_stg1_0 : Ref sig .tc).ty.Contents (Elt F)) :
    (oM.access (Rect.unit (s := S512x2048) ![0, 0] S512x2048.size inb_S512x2048_S512x2048_0_0) : View sig .tc _ _ _).write (Elt F) f w Finset.univ = w :=
  Memref.write_access_unit_zero_univ (Elt F) cc0_stg1_0 hz2 _ f w

/-- A load from a slot of the landing buffer, of the streaming buffer, or from a row block of the cast of `x`, holding it. -/
theorem load_comm (b : Fin 8) {off : Fin 3 → ℕ} (hoff : off = ![b.val, 0, 0]) {inb : ∀ a, off a + S1x512x512.size a ≤ S8x512x512.size a}
    {h : commM.view.LoadsAt (Rect.unit (s := S8x512x512) off S1x512x512.size inb).toLoadRect} (f : (cc0_scratch1 : Ref sig .tc).ty.Contents (Elt F))
    {α : Type} {Q : α → sProp 𝕄} {k : (S1x512x512.Idx → Elt F .bf16) → Prog (TpuEff nD τ sig (Elt F) Λ₀ .tc) α} :
    commPts c b f ⊢ iprop((commPts c b f -∗ wp frame (wpE (defs₀ (F := F)) 𝒱₀ (c : Thread nD τ) none) Set.univ
          (k (commM.view.readAt (Elt F) (Rect.unit (s := S8x512x512) off S1x512x512.size inb).toLoadRect f)) Q)
        -∗ wp frame (wpE (defs₀ (F := F)) 𝒱₀ (c : Thread nD τ) none) Set.univ
            (.op (.load commM (Rect.unit (s := S8x512x512) off S1x512x512.size inb).toLoadRect h) k) Q) :=
  wp_load 𝒱₀ (c : Thread nD τ) none Set.univ (m := commM) (comm_sub b hoff inb)
theorem load_wslot (b : Fin 2) {off : Fin 3 → ℕ} (hoff : off = ![b.val, 0, 0]) {inb : ∀ a, off a + S1x512x2048.size a ≤ S2x512x2048.size a}
    {h : wblkM.view.LoadsAt (Rect.unit (s := S2x512x2048) off S1x512x2048.size inb).toLoadRect} (f : (cc0_scratch2 : Ref sig .tc).ty.Contents (Elt F))
    {α : Type} {Q : α → sProp 𝕄} {k : (S1x512x2048.Idx → Elt F .f32) → Prog (TpuEff nD τ sig (Elt F) Λ₀ .tc) α} :
    wslotPts c b f ⊢ iprop((wslotPts c b f -∗ wp frame (wpE (defs₀ (F := F)) 𝒱₀ (c : Thread nD τ) none) Set.univ
          (k (wblkM.view.readAt (Elt F) (Rect.unit (s := S2x512x2048) off S1x512x2048.size inb).toLoadRect f)) Q)
        -∗ wp frame (wpE (defs₀ (F := F)) 𝒱₀ (c : Thread nD τ) none) Set.univ
            (.op (.load wblkM (Rect.unit (s := S2x512x2048) off S1x512x2048.size inb).toLoadRect h) k) Q) :=
  wp_load 𝒱₀ (c : Thread nD τ) none Set.univ (m := wblkM) (wslot_sub b hoff inb)
theorem load_xrow (b : Fin 8) {off : Fin 2 → ℕ} (hoff : off = ![512 * b.val, 0]) {inb : ∀ a, off a + S512x512.size a ≤ S4096x512.size a}
    {h : xbfM.view.LoadsAt (Rect.unit (s := S4096x512) off S512x512.size inb).toLoadRect}
    {α : Type} {Q : α → sProp 𝕄} {k : (S512x512.Idx → Elt F .bf16) → Prog (TpuEff nD τ sig (Elt F) Λ₀ .tc) α} :
    xrowPts m c b ⊢ iprop((xrowPts m c b -∗ wp frame (wpE (defs₀ (F := F)) 𝒱₀ (c : Thread nD τ) none) Set.univ
          (k (xbfM.view.readAt (Elt F) (Rect.unit (s := S4096x512) off S512x512.size inb).toLoadRect (xbf m c))) Q)
        -∗ wp frame (wpE (defs₀ (F := F)) 𝒱₀ (c : Thread nD τ) none) Set.univ
            (.op (.load xbfM (Rect.unit (s := S4096x512) off S512x512.size inb).toLoadRect h) k) Q) :=
  wp_load 𝒱₀ (c : Thread nD τ) none Set.univ (m := xbfM) (xrow_sub b hoff inb)

/-- A load of the result's buffer reads what it holds, and a store of all of it replaces that. -/
theorem load_out (o : (cc0_stg1_0 : Ref sig .tc).ty.Contents (Elt F))
    {h : oM.view.LoadsAt (Rect.unit (s := S512x2048) ![0, 0] S512x2048.size inb_S512x2048_S512x2048_0_0).toLoadRect}
    {α : Type} {Q : α → sProp 𝕄} {k : (S512x2048.Idx → Elt F .f32) → Prog (TpuEff nD τ sig (Elt F) Λ₀ .tc) α} :
    outPts c o ⊢ iprop((outPts c o -∗ wp frame (wpE (defs₀ (F := F)) 𝒱₀ (c : Thread nD τ) none) Set.univ (k o) Q)
        -∗ wp frame (wpE (defs₀ (F := F)) 𝒱₀ (c : Thread nD τ) none) Set.univ
            (.op (.load oM (Rect.unit (s := S512x2048) ![0, 0] S512x2048.size inb_S512x2048_S512x2048_0_0).toLoadRect h) k) Q) := by
  have e := wp_load (Q := Q) (defs := defs₀ (F := F)) (Γ := .empty) 𝒱₀ (c : Thread nD τ) none Set.univ (m := oM) (r := (Rect.unit (s := S512x2048) ![0, 0] S512x2048.size inb_S512x2048_S512x2048_0_0).toLoadRect)
    (hl := h) (k := k) (f := o) (S := Finset.univ) (q := fullShare) (Finset.subset_univ _)
  rw [read_out] at e
  exact e
theorem store_out (o w : (cc0_stg1_0 : Ref sig .tc).ty.Contents (Elt F))
    {h : (oM.access (Rect.unit (s := S512x2048) ![0, 0] S512x2048.size inb_S512x2048_S512x2048_0_0)).Stores Finset.univ} {h'}
    {α : Type} {Q : α → sProp 𝕄} {k : PUnit → Prog (TpuEff nD τ sig (Elt F) Λ₀ .tc) α} :
    outPts c o ⊢ iprop((outPts c w -∗ wp frame (wpE (defs₀ (F := F)) 𝒱₀ (c : Thread nD τ) none) Set.univ (k ⟨⟩) Q)
        -∗ wp frame (wpE (defs₀ (F := F)) 𝒱₀ (c : Thread nD τ) none) Set.univ
            (.op (.store oM (Rect.unit (s := S512x2048) ![0, 0] S512x2048.size inb_S512x2048_S512x2048_0_0) w Finset.univ h h') k) Q) := by
  have e := wp_store (Q := Q) (defs := defs₀ (F := F)) (Γ := .empty) 𝒱₀ (c : Thread nD τ) none Set.univ (m := oM) (r := Rect.unit (s := S512x2048) ![0, 0] S512x2048.size inb_S512x2048_S512x2048_0_0)
    (w := w) (hx := h) (hm := h') (k := k) (f := o) (S := Finset.univ) (Finset.subset_univ _)
  rw [write_out] at e
  exact e

/-- What holds between step `t` and the next: the sum after step `t`; for the later steps, their receive credits, the tokens
    and row blocks of the copies to start and the two copies in flight; of the earlier ones, the landed slots and the row
    blocks of `w`, returned. -/
def mulSt (t : ℕ) : sProp 𝕄 :=
  iprop(ow c 0 ∗ outPts c (accV m c t)
    ∗ bigSep (Finset.Ico (t + 1) 8) (fun u => iprop(cred (tallyAt (recvCell c (sc c u)) () N) ∗ atPos ER (recvCell c (sc c u)) 0 ∅ 0))
    ∗ bigSep (Finset.Ico 1 (t + 1)) (fun u => iprop(atPos ER (recvCell c (sc c u)) 1 ∅ 0 ∗ ∃ f, commPts c (sc c u) f))
    ∗ bigSep (Finset.Ico 0 (t + 1)) (fun u => wrowPts m c (sc c u))
    ∗ bigSep (Finset.Ico (t + 3) 8) (startItem m c)
    ∗ flying c (t + 1) ∗ flying c (t + 2))

/-- The same after the product of step `t`, before the copy of step `t + 2` is started. -/
def midSt (t : ℕ) : sProp 𝕄 :=
  iprop(ow c 0 ∗ outPts c (accV m c t)
    ∗ bigSep (Finset.Ico (t + 1) 8) (fun u => iprop(cred (tallyAt (recvCell c (sc c u)) () N) ∗ atPos ER (recvCell c (sc c u)) 0 ∅ 0))
    ∗ bigSep (Finset.Ico 1 (t + 1)) (fun u => iprop(atPos ER (recvCell c (sc c u)) 1 ∅ 0 ∗ ∃ f, commPts c (sc c u) f))
    ∗ bigSep (Finset.Ico 0 (t + 1)) (fun u => wrowPts m c (sc c u))
    ∗ bigSep (Finset.Ico (t + 2) 8) (startItem m c)
    ∗ flying c (t + 1)
    ∗ atPos ER (wCell c (f2 t)) (t / 2 + 1) ∅ 0 ∗ reached ER (wCell c (f2 t)) (t / 2 + 1) ∗ ∃ f, wslotPts c (f2 t) f)

/-- The start of the copy of step `t + 2`. -/
theorem step_next (t : ℕ) (ht : t + 2 < 8) {src : Memref sig .tc .hbm S512x2048 .f32} (hsrc : src = wrow (sc c (t + 2)))
    {dst : Memref sig .tc .vmem S512x2048 .f32} (hdst : dst = wslot (f2 t)) {q : DmaSem sig} (hq : q = wQ (f2 t))
    {h1 : src.view.WordExact} {h2 : dst.view.WordExact} {h3 : DmaTarget.Typed .hbm (.dma q) (DmaTarget.here dst : DmaTarget nD τ sig (.tc : Proc τ) .vmem S512x2048 .f32)}
    {α : Type} {Q : α → sProp 𝕄} {k : PUnit → Prog (TpuEff nD τ sig (Elt F) Λ₀ .tc) α} :
    iprop(recs m K ∗ midSt m c t)
      ⊢ iprop((mulSt m c t -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma q) h1 h2 h3) k) Q) := by
  unfold midSt mulSt
  rw [bigSep_Ico_succ_bot ht]
  iintro ⟨#Hr, HO, Hout, Hrc, Hrd, Hw, ⟨Hit, Hrest⟩, Hf, Hat, #Hre, Hs⟩ Hk
  iapply (step_start m K c (t + 2) ht hsrc (hdst.trans (congrArg wslot (f2_add_two t).symm)) (hq.trans (congrArg wQ (f2_add_two t).symm)))
    $$ [Hit Hs]
  · rw [f2_add_two, half_add_two]
    isplitr; · iexact Hr
    isplitl [Hit]; · iexact Hit
    isplitr; · iexact Hre
    iexact Hs
  iintro Hc
  iapply Hk
  isplitl [HO]; · iexact HO
  isplitl [Hout]; · iexact Hout
  isplitl [Hrc]; · iexact Hrc
  isplitl [Hrd]; · iexact Hrd
  isplitl [Hw]; · iexact Hw
  isplitl [Hrest]; · iexact Hrest
  isplitl [Hf]; · iexact Hf
  unfold flying
  rw [if_pos ht, f2_add_two, half_add_two]
  isplitl [Hat]; · iexact Hat
  iexact Hc

/-- The last two steps start no copy. -/
theorem step_rest (t : ℕ) (ht : 8 ≤ t + 2) : (midSt m c t : sProp 𝕄) ⊢ mulSt m c t := by
  unfold midSt mulSt
  rw [Finset.Ico_eq_empty_of_le ht, Finset.Ico_eq_empty_of_le (Nat.le_succ_of_le ht), bigSep_empty]
  iintro ⟨HO, Hout, Hrc, Hrd, Hw, He, Hf, Hat, -, Hs⟩
  isplitl [HO]; · iexact HO
  isplitl [Hout]; · iexact Hout
  isplitl [Hrc]; · iexact Hrc
  isplitl [Hrd]; · iexact Hrd
  isplitl [Hw]; · iexact Hw
  isplitl [He]; · iexact He
  isplitl [Hf]; · iexact Hf
  unfold flying
  rw [if_neg (by omega), f2_add_two, half_add_two]
  isplitl [Hat]; · iexact Hat
  iexact Hs

/-- A multiplication step after the first: the waits for the step's block of `w` and for the block the step's device sent, the
    loads, the product and the store of the sum. -/
theorem step_mul (t : ℕ) (ht : t + 1 < 8)
    {q : DmaSem sig} (hq : q = wQ (f2 (t + 1))) {srcw : Memref sig .tc .hbm S512x2048 .f32} {dstw : Memref sig .tc .vmem S512x2048 .f32}
    (hdw : dstw = wslot (f2 (t + 1))) {h1 : srcw.view.WordExact} {h2 : dstw.view.WordExact}
    {q' : DmaSem sig} (hq' : q' = recvQ (sc c (t + 1))) {src : Memref sig .tc .vmem S512x512 .bf16} {dst : Memref sig .tc .vmem S512x512 .bf16}
    (hd : dst = comm (sc c (t + 1))) {h3 : src.view.WordExact} {h4 : dst.view.WordExact}
    {off : Fin 3 → ℕ} (hoff : off = ![(sc c (t + 1)).val, 0, 0]) {inb : ∀ a, off a + S1x512x512.size a ≤ S8x512x512.size a}
    {h5 : commM.view.LoadsAt (Rect.unit (s := S8x512x512) off S1x512x512.size inb).toLoadRect}
    {off' : Fin 3 → ℕ} (hoff' : off' = ![(f2 (t + 1)).val, 0, 0]) {inb' : ∀ a, off' a + S1x512x2048.size a ≤ S2x512x2048.size a}
    {h6 : wblkM.view.LoadsAt (Rect.unit (s := S2x512x2048) off' S1x512x2048.size inb').toLoadRect}
    {h7 h8 : oM.view.LoadsAt (Rect.unit (s := S512x2048) ![0, 0] S512x2048.size inb_S512x2048_S512x2048_0_0).toLoadRect}
    {h9 : (oM.access (Rect.unit (s := S512x2048) ![0, 0] S512x2048.size inb_S512x2048_S512x2048_0_0)).Stores Finset.univ} {h10}
    {pay : Vec F S1x512x512 .bf16 → Vec F S1x512x2048 .f32 → Vec F S512x2048 .f32 → FVec F S512x2048 .f32} (hpay : pay = k0_pay4)
    {α : Type} {Q : α → sProp 𝕄} {k : PUnit → Prog (TpuEff nD τ sig (Elt F) Λ₀ .tc) α} :
    iprop(recs m K ∗ mulSt m c t)
      ⊢ iprop((midSt m c (t + 1) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 q srcw dstw h1 h2) fun _ => .op (.waitDma2 q' src dst h3 h4) fun _ =>
              .op (.load commM (Rect.unit (s := S8x512x512) off S1x512x512.size inb).toLoadRect h5) fun x =>
              .op (.load wblkM (Rect.unit (s := S2x512x2048) off' S1x512x2048.size inb').toLoadRect h6) fun w =>
              .op (.load oM (Rect.unit (s := S512x2048) ![0, 0] S512x2048.size inb_S512x2048_S512x2048_0_0).toLoadRect h7) fun o =>
              .op (.load oM (Rect.unit (s := S512x2048) ![0, 0] S512x2048.size inb_S512x2048_S512x2048_0_0).toLoadRect h8) fun _ =>
              .op (.store oM (Rect.unit (s := S512x2048) ![0, 0] S512x2048.size inb_S512x2048_S512x2048_0_0) (pay x w o) Finset.univ h9 h10) k) Q) := by
  subst hpay
  unfold mulSt midSt
  rw [bigSep_Ico_succ_bot ht, bigSep_Ico_succ_top (show 1 ≤ t + 1 by omega), bigSep_Ico_succ_top (show 0 ≤ t + 1 by omega)]
  iintro ⟨#Hr, HO, Hout, ⟨⟨Hcr, Hat⟩, Hrc⟩, Hrd, Hw, Hit, Hf, Hf'⟩ Hk
  iapply (step_arrived m K c (t + 1) ht hq hdw) $$ [HO Hf]
  · isplitr; · iexact Hr
    isplitl [HO]; · iexact HO
    iexact Hf
  iintro ⟨HO, Hatw, #Hre, Hpw⟩
  unfold wPay
  icases Hpw with ⟨⟨%fw, %hfw, Hs⟩, Hwr⟩
  iapply (step_landed m K c (sc c (t + 1)) (sc_ne c (Nat.succ_pos t) ht) hq' hd) $$ [HO Hcr Hat]
  · isplitr; · iexact Hr
    isplitl [HO]; · iexact HO
    isplitl [Hcr]; · iexact Hcr
    iexact Hat
  iintro ⟨HO, Hat, Hpr⟩
  unfold recvPay
  icases Hpr with ⟨%fx, %hfx, Hx⟩
  iapply (load_comm c (sc c (t + 1)) hoff fx) $$ Hx; iintro Hx
  iapply (load_wslot c (f2 (t + 1)) hoff' fw) $$ Hs; iintro Hs
  iapply (load_out c _) $$ Hout; iintro Hout
  iapply (load_out c _) $$ Hout; iintro Hout
  iapply (store_out c _ _) $$ Hout; iintro Hout
  iapply Hk
  isplitl [HO]; · iexact HO
  isplitl [Hout]
  · have e : (k0_pay4 (commM.view.readAt (Elt F) (Rect.unit (s := S8x512x512) off S1x512x512.size inb).toLoadRect fx)
        (wblkM.view.readAt (Elt F) (Rect.unit (s := S2x512x2048) off' S1x512x2048.size inb').toLoadRect fw) (accV m c t) : FVec F S512x2048 .f32)
        = accV m c (t + 1) := by
      unfold k0_pay4
      rw [accV, ← hfw, ← hfx, ← read_comm (sc c (t + 1)) hoff inb fx, ← read_wslot (f2 (t + 1)) hoff' inb' fw]
      rfl
    rw [← e]; iexact Hout
  isplitl [Hrc]; · iexact Hrc
  isplitl [Hat Hx Hrd]
  · isplitl [Hat Hx]
    · isplitl [Hat]; · iexact Hat
      iexists fx; iexact Hx
    iexact Hrd
  isplitl [Hw Hwr]
  · isplitl [Hwr]; · iexact Hwr
    iexact Hw
  isplitl [Hit]; · iexact Hit
  isplitl [Hf']; · iexact Hf'
  isplitl [Hatw]; · iexact Hatw
  isplitr; · iexact Hre
  iexists fw; iexact Hs

/-- The first multiplication step, on the device's own block, read from the cast of `x`. -/
theorem step_first
    {q : DmaSem sig} (hq : q = wQ (f2 0)) {srcw : Memref sig .tc .hbm S512x2048 .f32} {dstw : Memref sig .tc .vmem S512x2048 .f32}
    (hdw : dstw = wslot (f2 0)) {h1 : srcw.view.WordExact} {h2 : dstw.view.WordExact}
    {off : Fin 2 → ℕ} (hoff : off = ![512 * c.val, 0]) {inb : ∀ a, off a + S512x512.size a ≤ S4096x512.size a}
    {h5 : xbfM.view.LoadsAt (Rect.unit (s := S4096x512) off S512x512.size inb).toLoadRect}
    {off' : Fin 3 → ℕ} (hoff' : off' = ![(f2 0).val, 0, 0]) {inb' : ∀ a, off' a + S1x512x2048.size a ≤ S2x512x2048.size a}
    {h6 : wblkM.view.LoadsAt (Rect.unit (s := S2x512x2048) off' S1x512x2048.size inb').toLoadRect}
    {h7 : oM.view.LoadsAt (Rect.unit (s := S512x2048) ![0, 0] S512x2048.size inb_S512x2048_S512x2048_0_0).toLoadRect}
    {h9 : (oM.access (Rect.unit (s := S512x2048) ![0, 0] S512x2048.size inb_S512x2048_S512x2048_0_0)).Stores Finset.univ} {h10}
    {α : Type} {Q : α → sProp 𝕄} {k : PUnit → Prog (TpuEff nD τ sig (Elt F) Λ₀ .tc) α} (o : (cc0_stg1_0 : Ref sig .tc).ty.Contents (Elt F)) :
    iprop(recs m K ∗ ow c 0 ∗ outPts c o ∗ xrowPts m c c
        ∗ bigSep (Finset.Ico 1 8) (fun u => iprop(cred (tallyAt (recvCell c (sc c u)) () N) ∗ atPos ER (recvCell c (sc c u)) 0 ∅ 0))
        ∗ bigSep (Finset.Ico 2 8) (startItem m c) ∗ flying c 0 ∗ flying c 1)
      ⊢ iprop((iprop(xrowPts m c c ∗ midSt m c 0) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 q srcw dstw h1 h2) fun _ =>
              .op (.load xbfM (Rect.unit (s := S4096x512) off S512x512.size inb).toLoadRect h5) fun x =>
              .op (.load wblkM (Rect.unit (s := S2x512x2048) off' S1x512x2048.size inb').toLoadRect h6) fun w =>
              .op (.load oM (Rect.unit (s := S512x2048) ![0, 0] S512x2048.size inb_S512x2048_S512x2048_0_0).toLoadRect h7) fun _ =>
              .op (.store oM (Rect.unit (s := S512x2048) ![0, 0] S512x2048.size inb_S512x2048_S512x2048_0_0) (k0_pay3 x w) Finset.univ h9 h10) k) Q) := by
  unfold midSt
  rw [Finset.Ico_self, bigSep_empty, bigSep_Ico_one]
  iintro ⟨#Hr, HO, Hout, Hx, Hrc, Hit, Hf, Hf'⟩ Hk
  iapply (step_arrived m K c 0 (by omega) hq hdw) $$ [HO Hf]
  · isplitr; · iexact Hr
    isplitl [HO]; · iexact HO
    iexact Hf
  iintro ⟨HO, Hatw, #Hre, Hpw⟩
  unfold wPay
  icases Hpw with ⟨⟨%fw, %hfw, Hs⟩, Hwr⟩
  iapply (load_xrow m c c hoff) $$ Hx; iintro Hx
  iapply (load_wslot c (f2 0) hoff' fw) $$ Hs; iintro Hs
  iapply (load_out c o) $$ Hout; iintro Hout
  iapply (store_out c _ _) $$ Hout; iintro Hout
  iapply Hk
  isplitl [Hx]; · iexact Hx
  isplitl [HO]; · iexact HO
  isplitl [Hout]
  · have e : (k0_pay3 (xbfM.view.readAt (Elt F) (Rect.unit (s := S4096x512) off S512x512.size inb).toLoadRect (xbf m c))
        (wblkM.view.readAt (Elt F) (Rect.unit (s := S2x512x2048) off' S1x512x2048.size inb').toLoadRect fw) : FVec F S512x2048 .f32)
        = accV m c 0 := by
      unfold k0_pay3
      rw [sc_zero] at hfw
      rw [accV, ← hfw, xblock, ← read_xrow c hoff inb (xbf m c), ← read_wslot (f2 0) hoff' inb' fw]
      rfl
    rw [← e]; iexact Hout
  isplitl [Hrc]; · iexact Hrc
  isplitr; · iempintro
  isplitl [Hwr]; · iexact Hwr
  isplitl [Hit]; · iexact Hit
  isplitl [Hf']; · iexact Hf'
  isplitl [Hatw]; · iexact Hatw
  isplitr; · iexact Hre
  iexists fw; iexact Hs

end Steps

end Cert.Exchange
-- ==== Proof.Body.lean ====
/-
# One device's body

From what a device holds at launch — the records of all cells, its positions, its duty tokens, its credits, its buffers — the
kernel's body runs to its end: the result's buffer holds the rectified sum of the eight products, the copy of `w` is as it was,
and every semaphore of the device is at zero.
-/
module

public import proofs.«01_k».proof.Proof.Steps
public import Idealize.ShloMosaic.Lib.Rounds.Family

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Key → ℕ) (c : Dev nD)

/-! ## Families over a device's cells -/

omit [FloatOps F] in
theorem keys_split (Φ : Key → sProp 𝕄) :
    bigSep Finset.univ Φ = iprop(Φ kBar ∗ bigSep Finset.univ (fun t => Φ (kSend t)) ∗ bigSep Finset.univ (fun s => Φ (kRecv s)) ∗ Φ (kW 0) ∗ Φ (kW 1)) := by
  rw [bigSep_univ_sum, bigSep_univ_sum, bigSep_univ_sum, Finset.univ_unique, bigSep_singleton, bigSep_fin_two]
  rfl

omit [FloatOps F] in
/-- A family over the other devices, in the order `c` multiplies their blocks. -/
theorem all_sc' (Φ : Dev nD → sProp 𝕄) : bigSep Finset.univ Φ = iprop(Φ c ∗ bigSep (Finset.Ico 1 8) (fun t => Φ (sc c t))) := by
  rw [all_sc c, bigSep_Ico_succ_bot (by omega), sc_zero]
omit [FloatOps F] in
theorem others_sc (Φ : Dev nD → sProp 𝕄) : bigSep (Finset.univ.erase c) Φ = bigSep (Finset.Ico 1 8) (fun t => Φ (sc c t)) := by
  have e : (Finset.Ico 1 8).image (sc c) = Finset.univ.erase c := by revert c; decide
  rw [← e, bigSep_image_of_injOn ((sc_inj c).mono (by intro x hx; rw [Finset.mem_coe, Finset.mem_Ico] at hx ⊢; omega))]

/-! ## What a device holds at launch and at the end -/

/-- The duty tokens device `c` pays with: one unit of every barrier, its slot's receive semaphore on every device, its own
    send semaphores, its own streaming semaphores' eight copies. -/
def toks : sProp 𝕄 :=
  iprop(bigSep Finset.univ (fun d => dutyTok ER (barCell d) 0 c) ∗ bigSep Finset.univ (fun d => dutyTok ER (recvCell d c) 0 0)
    ∗ bigSep Finset.univ (fun t => dutyTok ER (sendCell c t) 0 0) ∗ bigSep (Finset.Ico 0 8) (fun t => dutyTok ER (wCell c (f2 t)) (t / 2) 0))

/-- Its position at each of its cells. -/
def posAll (R : Key → ℕ) : sProp 𝕄 := bigSep Finset.univ (fun k => atPos ER (kcell (c, k)) (R k) ∅ 0)

/-- Its credits: its barrier's seven units and each other device's copy to it. -/
def creds : sProp 𝕄 := iprop(cred (tallyAt (barCell c) () 7) ∗ bigSep (Finset.univ.erase c) (fun s => cred (tallyAt (recvCell c s) () N)))

/-- The exchange's ghost state device `c` starts from, at the names `K` of the cells' invariants. -/
def ghost : sProp 𝕄 := iprop(recs m K ∗ posAll c (fun _ => 0) ∗ toks c)

/-- Its three scratch buffers, at any contents. -/
def scr : sProp 𝕄 :=
  iprop((∃ f, (c : Thread nD τ).loc cc0_scratch0 ↦{fullShare} f) ∗ (∃ f, (c : Thread nD τ).loc cc0_scratch1 ↦{fullShare} f)
    ∗ ∃ f, (c : Thread nD τ).loc cc0_scratch2 ↦{fullShare} f)
/-- Its copy of `w`, as at launch. -/
def wPts : sProp 𝕄 := (c : Thread nD τ).loc main_arg1 ↦{fullShare} wv m c

/-- Every counter of its cells at zero. -/
def zeros : sProp 𝕄 := bigSep Finset.univ (fun k : Key => semVal (kcell (c, k)) 0)

/-! ## The start, sorted into the body's phases -/

/-- What the copies need beside the slots the barrier brings. -/
def sendToks : sProp 𝕄 := bigSep (Finset.Ico 0 7) (fun r => iprop(dutyTok ER (sendCell c (tg c r)) 0 0 ∗ dutyTok ER (recvCell (tg c r) c) 0 0))
/-- The positions at its own-numbered send and receive semaphores, which nothing uses, and the own-numbered slot. -/
def idle : sProp 𝕄 := iprop(atPos ER (sendCell c c) 0 ∅ 0 ∗ atPos ER (recvCell c c) 0 ∅ 0 ∗ ∃ f, commPts c c f)

/-- The tokens, positions and buffers of the launch, sorted: the signals; the barrier's position; the copies' tokens; the
    positions at the send semaphores; the receive credits and positions; the copies of `w`; the streaming slots. -/
theorem setup (f1 : Buf (Elt F) ((c : Thread nD τ).loc cc0_scratch1)) (f2' : Buf (Elt F) ((c : Thread nD τ).loc cc0_scratch2)) :
    iprop(posAll c (fun _ => 0) ∗ toks c ∗ bigSep (Finset.univ.erase c) (fun s => cred (tallyAt (recvCell c s) () N))
        ∗ ow c (O₀ c) ∗ ((c : Thread nD τ).loc cc0_scratch1 ↦{fullShare} f1) ∗ ((c : Thread nD τ).loc cc0_scratch2 ↦{fullShare} f2') ∗ wPts m c)
      ⊢ (iprop(sigSt c 0 ∗ atPos ER (barCell c) 0 ∅ 0 ∗ sendToks c
        ∗ bigSep (Finset.Ico 0 7) (fun r => atPos ER (sendCell c (tg c r)) 0 ∅ 0)
        ∗ bigSep (Finset.Ico 1 8) (fun u => iprop(cred (tallyAt (recvCell c (sc c u)) () N) ∗ atPos ER (recvCell c (sc c u)) 0 ∅ 0))
        ∗ bigSep (Finset.Ico 0 8) (startItem m c)
        ∗ (atPos ER (wCell c 0) 0 ∅ 0 ∗ ∃ f, wslotPts c 0 f) ∗ (atPos ER (wCell c 1) 0 ∅ 0 ∗ ∃ f, wslotPts c 1 f)
        ∗ idle c) : sProp 𝕄) := by
  unfold posAll toks sendToks idle sigSt startItem wPts
  rw [keys_split, all_tg c (fun d => dutyTok ER (barCell d) 0 c), all_tg c (fun d => dutyTok ER (recvCell d c) 0 0),
    all_tg c (fun t => dutyTok ER (sendCell c t) 0 0), all_tg c (fun t => atPos ER (kcell (c, kSend t)) 0 ∅ 0),
    all_sc' c (fun s => atPos ER (kcell (c, kRecv s)) 0 ∅ 0), others_sc, w_split, all_sc c (wrowPts m c), comm_split,
    all_tg c (fun b => commPts c b f1), wslot_split,
    show bigSep Finset.univ (fun b => wslotPts c b f2') = iprop(wslotPts c 0 f2' ∗ wslotPts c 1 f2') from bigSep_fin_two _, bigSep_sep', bigSep_sep', bigSep_sep', bigSep_sep']
  iintro ⟨⟨Hpb, ⟨Hps, Hpss⟩, ⟨Hpr, Hprs⟩, Hw0, Hw1⟩, ⟨⟨-, Htb⟩, ⟨-, Htr⟩, ⟨-, Hts⟩, Htw⟩, Hcr, HO, ⟨Hc, Hcs⟩, ⟨Hs0, Hs1⟩, Hw⟩
  isplitl [HO Htb Hcs]
  · isplitl [HO]; · iexact HO
    isplitl [Htb]; · iexact Htb
    iapply (show (bigSep (Finset.Ico 0 7) (fun r => commPts c (tg c r) f1) : sProp 𝕄) ⊢ bigSep (Finset.Ico 0 7) (fun r => barPay (tg c r) c) from
      bigSep_mono fun r _ => exists_intro (Φ := fun f => commPts c (tg c r) f) f1)
    iexact Hcs
  isplitl [Hpb]; · iexact Hpb
  isplitl [Htr Hts]
  · isplitl [Hts]; · iexact Hts
    iexact Htr
  isplitl [Hpss]; · iexact Hpss
  isplitl [Hcr Hprs]
  · isplitl [Hcr]; · iexact Hcr
    iexact Hprs
  isplitl [Htw Hw]
  · isplitl [Htw]; · iexact Htw
    iexact Hw
  isplitl [Hw0 Hs0]
  · isplitl [Hw0]; · iexact Hw0
    iexists f2'; iexact Hs0
  isplitl [Hw1 Hs1]
  · isplitl [Hw1]; · iexact Hw1
    iexists f2'; iexact Hs1
  isplitl [Hps]; · iexact Hps
  isplitl [Hpr]; · iexact Hpr
  iexists f1; iexact Hc

/-! ## The end, joined -/

/-- The round each of a device's cells has reached at the end: past its only one, four for a streaming semaphore, none for the
    own-numbered send and receive semaphores. -/
def Rfin : Key → ℕ
  | .inl _ => 1
  | .inr (.inl t) => if t = c then 0 else 1
  | .inr (.inr (.inl s)) => if s = c then 0 else 1
  | .inr (.inr (.inr _)) => 4

theorem no_later (k : Key) (r : ℕ) (h : Rfin c k ≤ r) : (xRd (F := F) m).duties (kcell (c, k)) r = ∅ := by
  rcases k with _ | t | s | b
  · exact duties_bar_later m c r h
  · exact duties_send_later m c t r h
  · exact duties_recv_later m c s r h
  · exact duties_w_later m c b r h

/-- A device's positions at the ends of its cells close them all: every counter is at zero. -/
theorem close_all : iprop(recs m K ∗ posAll c (Rfin c)) ⊢ (|={Set.univ}=> zeros c : sProp 𝕄) := by
  unfold posAll zeros
  refine BI.Entails.trans ?_ (Rounds.cells_close ER (xRd m) Finset.univ (fun k : Key => kcell (c, k)) (fun k => K (c, k))
    (fun _ _ => Set.mem_univ _) (fun _ _ h => h) (Rfin c) (fun k _ r h => no_later m c k r h))
  exact bigSep_with_persistent (fun k _ => sep_mono_left (recs_inv m K (c, k)))

theorem finish :
    iprop(recs m K ∗ atPos ER (barCell c) 1 ∅ 0
        ∗ bigSep (Finset.Ico 0 7) (fun r => iprop(atPos ER (sendCell c (tg c r)) 1 ∅ 0 ∗ xrowPts m c (tg c r))) ∗ xrowPts m c c
        ∗ bigSep (Finset.Ico 1 8) (fun u => iprop(atPos ER (recvCell c (sc c u)) 1 ∅ 0 ∗ ∃ f, commPts c (sc c u) f))
        ∗ bigSep (Finset.Ico 0 8) (fun u => wrowPts m c (sc c u)) ∗ flying c 8 ∗ flying c 9 ∗ idle c)
      ⊢ (|={Set.univ}=> iprop(wPts m c ∗ scr c ∗ zeros c) : sProp 𝕄) := by
  have hs : bigSep (Finset.Ico 0 7) (fun r => atPos ER (sendCell c (tg c r)) 1 ∅ 0)
      = (bigSep (Finset.Ico 0 7) (fun r => atPos ER (kcell (c, kSend (tg c r))) (Rfin c (kSend (tg c r))) ∅ 0) : sProp 𝕄) :=
    bigSep_congr fun r hr => by
      rw [show Rfin c (kSend (tg c r)) = 1 from if_neg (tg_ne c (Finset.mem_Ico.mp hr).2)]; rfl
  have hv : bigSep (Finset.Ico 1 8) (fun u => atPos ER (recvCell c (sc c u)) 1 ∅ 0)
      = (bigSep (Finset.Ico 1 8) (fun u => atPos ER (kcell (c, kRecv (sc c u))) (Rfin c (kRecv (sc c u))) ∅ 0) : sProp 𝕄) :=
    bigSep_congr fun u hu => by
      rw [show Rfin c (kRecv (sc c u)) = 1 from if_neg (sc_ne c (Finset.mem_Ico.mp hu).1 (Finset.mem_Ico.mp hu).2)]; rfl
  have hp : (posAll c (Rfin c) : sProp 𝕄) = iprop(atPos ER (barCell c) 1 ∅ 0
      ∗ (atPos ER (sendCell c c) 0 ∅ 0 ∗ bigSep (Finset.Ico 0 7) (fun r => atPos ER (sendCell c (tg c r)) 1 ∅ 0))
      ∗ (atPos ER (recvCell c c) 0 ∅ 0 ∗ bigSep (Finset.Ico 1 8) (fun u => atPos ER (recvCell c (sc c u)) 1 ∅ 0))
      ∗ atPos ER (wCell c 0) 4 ∅ 0 ∗ atPos ER (wCell c 1) 4 ∅ 0) := by
    unfold posAll
    rw [keys_split, all_tg c, all_sc' c, hs, hv, show Rfin c (kSend c) = 0 from if_pos rfl, show Rfin c (kRecv c) = 0 from if_pos rfl]
    rfl
  unfold flying idle
  rw [if_neg (by omega), if_neg (by omega), bigSep_sep', bigSep_sep']
  iintro ⟨#Hr, Hb, ⟨Hs, Hx⟩, Hxc, ⟨Hv, Hcs⟩, Hw, ⟨Hw0, ⟨%g0, Hs0⟩⟩, ⟨Hw1, ⟨%g1, Hs1⟩⟩, Hsc, Hvc, ⟨%g2, Hc⟩⟩
  imod (close_all m K c) $$ [Hb Hs Hv Hw0 Hw1 Hsc Hvc] with Hz
  · isplitr; · iexact Hr
    rw [hp]
    isplitl [Hb]; · iexact Hb
    isplitl [Hs Hsc]
    · isplitl [Hsc]; · iexact Hsc
      iexact Hs
    isplitl [Hv Hvc]
    · isplitl [Hvc]; · iexact Hvc
      iexact Hv
    isplitl [Hw0]; · iexact Hw0
    iexact Hw1
  imodintro
  unfold wPts scr
  rw [w_split, all_sc c]
  isplitl [Hw]; · iexact Hw
  isplitr [Hz]
  · isplitl [Hx Hxc]
    · iexists xbf m c
      rw [xbf_split, all_tg c]
      isplitl [Hxc]; · iexact Hxc
      iexact Hx
    isplitl [Hc Hcs]
    · iapply (comm_join c g2)
      rw [all_sc' c]
      isplitl [Hc]; · iexists g2; iexact Hc
      iexact Hcs
    iapply (wslot_join c g0)
    rw [show bigSep Finset.univ (fun b => iprop(∃ f, wslotPts (F := F) c b f)) = iprop((∃ f, wslotPts c 0 f) ∗ (∃ f, wslotPts c 1 f)) from bigSep_fin_two _]
    isplitl [Hs0]; · iexists g0; iexact Hs0
    iexists g1; iexact Hs1
  iexact Hz

end Cert.Exchange
-- ==== Proof.Sound.lean ====
/-
# The body's run

The kernel's body, executed one step of the exchange at a time, from a device's launch state to its end.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Key → ℕ) (c : Dev nD)

/-! ## The offsets and devices the body names, by the step they belong to -/

omit [FloatOps F] in
theorem sc_val (t : ℕ) (h : t < 8) : (sc c t).val = (c.val + 8 - t) % 8 := rfl
/-- The rows of `w` the copy of step `t` reads. -/
theorem off_w (t : ℕ) (h : t < 8) : k0_off1 c (BitVec.ofNat 32 t) = ![512 * (sc c t).val, 0] := k0_off1_eq c ⟨t, h⟩
/-- The send semaphore, and the rows of the cast of `x`, of the copy to `tg c r`. -/
theorem off_send (r : ℕ) (h : r < 7) : k0_off2 c (BitVec.ofNat 32 (1 + r)) = ![(tg c r).val] := k0_off2_eq c ⟨r, h⟩
theorem off_row (r : ℕ) (h : r < 7) : k0_off5 c (BitVec.ofNat 32 (1 + r)) = ![512 * (tg c r).val, 0] := k0_off5_eq c ⟨r, h⟩
omit [FloatOps F] in
theorem sc_succ (r : ℕ) (h : r < 7) : (c.val + 7 - r) % 8 = (sc c (r + 1)).val := by
  show _ = (c.val + 8 - (r + 1)) % 8
  congr 1; omega
/-- The receive semaphore, and the slot of the landing buffer, of the block of `sc c (r + 1)`. -/
theorem off_recv (r : ℕ) (h : r < 7) : k0_off7 c (BitVec.ofNat 32 (1 + r)) = ![(sc c (r + 1)).val] := by
  rw [← sc_succ c r h]; exact k0_off7_eq c ⟨r, h⟩
theorem off_land (r : ℕ) (h : r < 7) : k0_off8 c (BitVec.ofNat 32 (1 + r)) = ![(sc c (r + 1)).val, 0, 0] := by
  rw [← sc_succ c r h]; exact k0_off8_eq c ⟨r, h⟩
theorem off_load (r : ℕ) (h : r < 7) : k0_off9 c (BitVec.ofNat 32 (1 + r)) = ![(sc c (r + 1)).val, 0, 0] := by
  rw [← sc_succ c r h]; exact k0_off9_eq c ⟨r, h⟩

/-! ## The block of `x` and its cast -/

def xPts : sProp 𝕄 := (c : Thread nD τ).loc cc0_stg0_0 ↦{fullShare} xstg m c

theorem load_x {h : xM.view.LoadsAt (Rect.unit (s := S4096x512) ![0, 0] S4096x512.size inb_S4096x512_S4096x512_0_0).toLoadRect}
    {α : Type} {Q : α → sProp 𝕄} {k : (S4096x512.Idx → Elt F .f32) → Prog (TpuEff nD τ sig (Elt F) Λ₀ .tc) α} :
    xPts m c ⊢ iprop((xPts m c -∗ wp frame (wpE (defs₀ (F := F)) 𝒱₀ (c : Thread nD τ) none) Set.univ (k (xstg m c)) Q)
        -∗ wp frame (wpE (defs₀ (F := F)) 𝒱₀ (c : Thread nD τ) none) Set.univ
            (.op (.load xM (Rect.unit (s := S4096x512) ![0, 0] S4096x512.size inb_S4096x512_S4096x512_0_0).toLoadRect h) k) Q) := by
  have e := wp_load (Q := Q) (defs := defs₀ (F := F)) (Γ := .empty) 𝒱₀ (c : Thread nD τ) none Set.univ (m := xM)
    (r := (Rect.unit (s := S4096x512) ![0, 0] S4096x512.size inb_S4096x512_S4096x512_0_0).toLoadRect)
    (hl := h) (k := k) (f := xstg m c) (S := Finset.univ) (q := fullShare) (Finset.subset_univ _)
  rw [show xM.view.readAt (Elt F) (Rect.unit (s := S4096x512) ![0, 0] S4096x512.size inb_S4096x512_S4096x512_0_0).toLoadRect (xstg m c) = xstg m c from
    Memref.readAt_unit_zero (Elt F) cc0_stg0_0 hz2 _ _] at e
  exact e
theorem load_cast (f : (cc0_scratch0 : Ref sig .tc).ty.Contents (Elt F))
    {h : xbfM.view.LoadsAt (Rect.unit (s := S4096x512) ![0, 0] S4096x512.size inb_S4096x512_S4096x512_0_0).toLoadRect}
    {α : Type} {Q : α → sProp 𝕄} {k : (S4096x512.Idx → Elt F .bf16) → Prog (TpuEff nD τ sig (Elt F) Λ₀ .tc) α} :
    ((c : Thread nD τ).loc cc0_scratch0 ↦{fullShare} f : sProp 𝕄)
      ⊢ iprop((((c : Thread nD τ).loc cc0_scratch0 ↦{fullShare} f) -∗ wp frame (wpE (defs₀ (F := F)) 𝒱₀ (c : Thread nD τ) none) Set.univ (k f) Q)
        -∗ wp frame (wpE (defs₀ (F := F)) 𝒱₀ (c : Thread nD τ) none) Set.univ
            (.op (.load xbfM (Rect.unit (s := S4096x512) ![0, 0] S4096x512.size inb_S4096x512_S4096x512_0_0).toLoadRect h) k) Q) := by
  have e := wp_load (Q := Q) (defs := defs₀ (F := F)) (Γ := .empty) 𝒱₀ (c : Thread nD τ) none Set.univ (m := xbfM)
    (r := (Rect.unit (s := S4096x512) ![0, 0] S4096x512.size inb_S4096x512_S4096x512_0_0).toLoadRect)
    (hl := h) (k := k) (f := f) (S := Finset.univ) (q := fullShare) (Finset.subset_univ _)
  rw [show xbfM.view.readAt (Elt F) (Rect.unit (s := S4096x512) ![0, 0] S4096x512.size inb_S4096x512_S4096x512_0_0).toLoadRect f = f from
    Memref.readAt_unit_zero (Elt F) cc0_scratch0 hz2 _ _] at e
  exact e
theorem store_cast (f : (cc0_scratch0 : Ref sig .tc).ty.Contents (Elt F))
    {h : (xbfM.access (Rect.unit (s := S4096x512) ![0, 0] S4096x512.size inb_S4096x512_S4096x512_0_0)).Stores Finset.univ} {h'}
    {α : Type} {Q : α → sProp 𝕄} {k : PUnit → Prog (TpuEff nD τ sig (Elt F) Λ₀ .tc) α} :
    ((c : Thread nD τ).loc cc0_scratch0 ↦{fullShare} f : sProp 𝕄)
      ⊢ iprop((bigSep Finset.univ (xrowPts m c) -∗ wp frame (wpE (defs₀ (F := F)) 𝒱₀ (c : Thread nD τ) none) Set.univ (k ⟨⟩) Q)
        -∗ wp frame (wpE (defs₀ (F := F)) 𝒱₀ (c : Thread nD τ) none) Set.univ
            (.op (.store xbfM (Rect.unit (s := S4096x512) ![0, 0] S4096x512.size inb_S4096x512_S4096x512_0_0) (k0_pay2 (k0_pay1 (xstg m c))) Finset.univ h h') k) Q) := by
  have e := wp_store (Q := Q) (defs := defs₀ (F := F)) (Γ := .empty) 𝒱₀ (c : Thread nD τ) none Set.univ (m := xbfM)
    (r := Rect.unit (s := S4096x512) ![0, 0] S4096x512.size inb_S4096x512_S4096x512_0_0)
    (w := k0_pay2 (k0_pay1 (xstg m c))) (hx := h) (hm := h') (k := k) (f := f) (S := Finset.univ) (Finset.subset_univ _)
  rw [show (xbfM.access (Rect.unit (s := S4096x512) ![0, 0] S4096x512.size inb_S4096x512_S4096x512_0_0) : View sig .tc _ _ _).write (Elt F) f (k0_pay2 (k0_pay1 (xstg m c))) Finset.univ
    = xbf m c from Memref.write_access_unit_zero_univ (Elt F) cc0_scratch0 hz2 _ f _] at e
  rw [← xbf_split]
  exact e

/-! ## The run -/

/-- What device `c` computes: the rectified sum of the eight products. -/
def outV : FVec F S512x2048 .f32 := k0_pay11 (accV m c 7)

/-- What the copies start from: the slots the barrier brought, the row blocks and the copies' tokens. -/
theorem send_ready :
    iprop(ow c (oweR c 7) ∗ bigSep (Finset.Ico 0 7) (fun r => barPay c (tg c r)) ∗ bigSep (Finset.Ico 0 7) (fun r => xrowPts m c (tg c r)) ∗ sendToks c)
      ⊢ (sendSt m c 0 : sProp 𝕄) := by
  unfold sendSt sendToks
  rw [Finset.Ico_self, bigSep_empty, bigSep_sep', bigSep_sep', bigSep_sep', bigSep_sep']
  iintro ⟨HO, Hb, Hx, Ht, Hu⟩
  isplitl [HO]; · iexact HO
  isplitl
  · isplitl [Hx]; · iexact Hx
    isplitl [Hb]; · iexact Hb
    isplitl [Ht]; · iexact Ht
    iexact Hu
  iempintro
/-- What the waits for the copies' source sides start from: their credits and the positions at the send semaphores. -/
theorem back_ready :
    iprop(ow c 0 ∗ bigSep (Finset.Ico 0 7) (fun r => cred (tallyAt (sendCell c (tg c r)) () N)) ∗ bigSep (Finset.Ico 0 7) (fun r => atPos ER (sendCell c (tg c r)) 0 ∅ 0))
      ⊢ (backSt m c 0 : sProp 𝕄) := by
  unfold backSt
  rw [Finset.Ico_self, bigSep_empty, bigSep_sep']
  iintro ⟨HO, Hc, Hp⟩
  isplitl [HO]; · iexact HO
  isplitl
  · isplitl [Hc]; · iexact Hc
    iexact Hp
  iempintro

set_option maxRecDepth 65536 in
set_option maxHeartbeats 4000000 in
theorem run_body (o : (cc0_stg1_0 : Ref sig .tc).ty.Contents (Elt F)) (Kt : PUnit → sProp 𝕄) :
    iprop(ghost m K c ∗ creds c ∗ levAts L lv ∗ wPts m c ∗ scr c ∗ ow c (O₀ c) ∗ xPts m c ∗ outPts c o
        ∗ (iprop(wPts m c ∗ scr c ∗ zeros c ∗ ow c 0 ∗ xPts m c ∗ outPts c (outV m c)) -∗ Kt ⟨⟩))
      ⊢ wp frame (wpE (defs₀ (F := F)) 𝒱₀ (c : Thread nD τ) none) Set.univ
          (cc0_body (Memref.whole cc0_stg0_0) (Memref.isWhole_whole _) (Memref.whole main_arg1) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _)
            cc0_scratch3 cc0_scratch4 cc0_scratch5) Kt := by
  simp only [cc0_body_eq_skeleton]; unfold cc0_body_skel
  simp only [k0_part14_eq_skeleton]; unfold k0_part14_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel
    k0_part11_skel k0_part12_skel k0_part13_skel
  simp only [semSignalWord, semWaitWord, Prog.lift, Prog.bind_op, Prog.bind_ret, Prog.pure_eq_ret, wp_deviceId]
  unfold ghost creds scr
  iintro ⟨⟨#Hr, Hpos, Htok⟩, ⟨Hcb, Hcr⟩, #Hlev, Hw, ⟨⟨%f0, Hxb⟩, ⟨%f1, Hcm⟩, ⟨%f2', Hsl⟩⟩, HO, Hx, Hout, Hk⟩
  ihave Hst := (setup m c f1 f2') $$ [Hpos Htok Hcr HO Hcm Hsl Hw]
  · isplitl [Hpos]; · iexact Hpos
    isplitl [Htok]; · iexact Htok
    isplitl [Hcr]; · iexact Hcr
    isplitl [HO]; · iexact HO
    isplitl [Hcm]; · iexact Hcm
    isplitl [Hsl]; · iexact Hsl
    iexact Hw
  icases Hst with ⟨Hsig, Hpb, Hst, Hps, Hrv, Hws, ⟨Hw0, Hs0⟩, ⟨Hw1, Hs1⟩, Hidle⟩
  -- the cast of `x`
  iapply (load_x m c) $$ Hx; iintro Hx
  iapply (load_cast c f0) $$ Hxb; iintro Hxb
  iapply (store_cast m c f0) $$ Hxb; iintro Hxr
  ihave Hxr := (Entails.of_eq (all_tg c (xrowPts m c))) $$ Hxr
  icases Hxr with ⟨Hxc, Hxr⟩
  -- the first two copies of `w`
  ihave Hws := (Entails.of_eq (bigSep_Ico_succ_bot (by decide) (startItem m c))) $$ Hws
  icases Hws with ⟨Hi0, Hws⟩
  ihave Hws := (Entails.of_eq (bigSep_Ico_succ_bot (by decide) (startItem m c))) $$ Hws
  icases Hws with ⟨Hi1, Hws⟩
  ihave #Hr0 := (recs_reached m K (c, kW 0)) $$ Hr
  ihave #Hr1 := (recs_reached m K (c, kW 1)) $$ Hr
  iapply (step_start m K c 0 (by decide) (wrow_of (sc c 0) (off_w c 0 (by decide)) _) (wslot_of 0 rfl _) (wQ_of 0 rfl _)) $$ [Hi0 Hs0]
  · isplitr; · iexact Hr
    isplitl [Hi0]; · iexact Hi0
    isplitr; · iexact Hr0
    iexact Hs0
  iintro Hc0
  iapply (step_start m K c 1 (by decide) (wrow_of (sc c 1) (off_w c 1 (by decide)) _) (wslot_of 1 rfl _) (wQ_of 1 rfl _)) $$ [Hi1 Hs1]
  · isplitr; · iexact Hr
    isplitl [Hi1]; · iexact Hi1
    isplitr; · iexact Hr1
    iexact Hs1
  iintro Hc1
  -- the barrier
  iapply (step_signal m K c 0 (by decide) (Fin.ext (k0_dev1_eq c)) rfl) $$ [Hsig]
  · isplitr; · iexact Hr
    iexact Hsig
  iintro Hsig
  iapply (step_signal m K c 1 (by decide) (Fin.ext (k0_dev2_eq c)) rfl) $$ [Hsig]
  · isplitr; · iexact Hr
    iexact Hsig
  iintro Hsig
  iapply (step_signal m K c 2 (by decide) (Fin.ext (k0_dev3_eq c)) rfl) $$ [Hsig]
  · isplitr; · iexact Hr
    iexact Hsig
  iintro Hsig
  iapply (step_signal m K c 3 (by decide) (Fin.ext (k0_dev4_eq c)) rfl) $$ [Hsig]
  · isplitr; · iexact Hr
    iexact Hsig
  iintro Hsig
  iapply (step_signal m K c 4 (by decide) (Fin.ext (k0_dev5_eq c)) rfl) $$ [Hsig]
  · isplitr; · iexact Hr
    iexact Hsig
  iintro Hsig
  iapply (step_signal m K c 5 (by decide) (Fin.ext (k0_dev6_eq c)) rfl) $$ [Hsig]
  · isplitr; · iexact Hr
    iexact Hsig
  iintro Hsig
  iapply (step_signal m K c 6 (by decide) (Fin.ext (k0_dev7_eq c)) rfl) $$ [Hsig]
  · isplitr; · iexact Hr
    iexact Hsig
  iintro Hsig
  unfold sigSt
  icases Hsig with ⟨HO, -⟩
  iapply (step_barrier m K c rfl) $$ [HO Hcb Hpb]
  · isplitr; · iexact Hr
    isplitr; · iexact Hlev
    isplitl [HO]; · iexact HO
    isplitl [Hcb]; · iexact Hcb
    iexact Hpb
  iintro ⟨HO, Hpb, Hbar⟩
  -- the seven remote copies
  ihave Hsend := (send_ready m c) $$ [HO Hbar Hxr Hst]
  · isplitl [HO]; · iexact HO
    isplitl [Hbar]; · iexact Hbar
    isplitl [Hxr]; · iexact Hxr
    iexact Hst
  iapply (step_send m K c 0 (by decide) (Fin.ext (k0_dev8_eq c)) (xrow_of (tg c 0) (off_row c 0 (by decide)) _) (comm_of c (k0_off4_eq c) _)
    (sendQ_of (tg c 0) (off_send c 0 (by decide)) _) (recvQ_of c (k0_off3_eq c) _)) $$ [Hsend]
  · isplitr; · iexact Hr
    iexact Hsend
  iintro Hsend
  iapply (step_send m K c 1 (by decide) (Fin.ext (k0_dev9_eq c)) (xrow_of (tg c 1) (off_row c 1 (by decide)) _) (comm_of c (k0_off4_eq c) _)
    (sendQ_of (tg c 1) (off_send c 1 (by decide)) _) (recvQ_of c (k0_off3_eq c) _)) $$ [Hsend]
  · isplitr; · iexact Hr
    iexact Hsend
  iintro Hsend
  iapply (step_send m K c 2 (by decide) (Fin.ext (k0_dev10_eq c)) (xrow_of (tg c 2) (off_row c 2 (by decide)) _) (comm_of c (k0_off4_eq c) _)
    (sendQ_of (tg c 2) (off_send c 2 (by decide)) _) (recvQ_of c (k0_off3_eq c) _)) $$ [Hsend]
  · isplitr; · iexact Hr
    iexact Hsend
  iintro Hsend
  iapply (step_send m K c 3 (by decide) (Fin.ext (k0_dev11_eq c)) (xrow_of (tg c 3) (off_row c 3 (by decide)) _) (comm_of c (k0_off4_eq c) _)
    (sendQ_of (tg c 3) (off_send c 3 (by decide)) _) (recvQ_of c (k0_off3_eq c) _)) $$ [Hsend]
  · isplitr; · iexact Hr
    iexact Hsend
  iintro Hsend
  iapply (step_send m K c 4 (by decide) (Fin.ext (k0_dev12_eq c)) (xrow_of (tg c 4) (off_row c 4 (by decide)) _) (comm_of c (k0_off4_eq c) _)
    (sendQ_of (tg c 4) (off_send c 4 (by decide)) _) (recvQ_of c (k0_off3_eq c) _)) $$ [Hsend]
  · isplitr; · iexact Hr
    iexact Hsend
  iintro Hsend
  iapply (step_send m K c 5 (by decide) (Fin.ext (k0_dev13_eq c)) (xrow_of (tg c 5) (off_row c 5 (by decide)) _) (comm_of c (k0_off4_eq c) _)
    (sendQ_of (tg c 5) (off_send c 5 (by decide)) _) (recvQ_of c (k0_off3_eq c) _)) $$ [Hsend]
  · isplitr; · iexact Hr
    iexact Hsend
  iintro Hsend
  iapply (step_send m K c 6 (by decide) (Fin.ext (k0_dev14_eq c)) (xrow_of (tg c 6) (off_row c 6 (by decide)) _) (comm_of c (k0_off4_eq c) _)
    (sendQ_of (tg c 6) (off_send c 6 (by decide)) _) (recvQ_of c (k0_off3_eq c) _)) $$ [Hsend]
  · isplitr; · iexact Hr
    iexact Hsend
  iintro Hsend
  unfold sendSt
  icases Hsend with ⟨HO, -, Hcs⟩
  -- the first product
  iapply (step_first m K c (wQ_of 0 rfl _) (wslot_of 0 rfl _) (k0_off6_eq c) rfl o) $$ [HO Hout Hxc Hrv Hws Hw0 Hc0 Hw1 Hc1]
  · isplitr; · iexact Hr
    isplitl [HO]; · iexact HO
    isplitl [Hout]; · iexact Hout
    isplitl [Hxc]; · iexact Hxc
    isplitl [Hrv]; · iexact Hrv
    isplitl [Hws]; · iexact Hws
    unfold flying
    rw [if_pos (by decide), if_pos (by decide)]
    isplitl [Hw0 Hc0]
    · isplitl [Hw0]; · iexact Hw0
      iexact Hc0
    isplitl [Hw1]; · iexact Hw1
    iexact Hc1
  iintro ⟨Hxc, Hmul⟩
  iapply (step_next m K c 0 (by decide) (wrow_of (sc c 2) (off_w c 2 (by decide)) _) (wslot_of 0 rfl _) (wQ_of 0 rfl _)) $$ [Hmul]
  · isplitr; · iexact Hr
    iexact Hmul
  iintro Hmul
  iapply (step_mul m K c 0 (by decide) (wQ_of 1 rfl _) (wslot_of 1 rfl _) (recvQ_of (sc c 1) (off_recv c 0 (by decide)) _)
    (comm_of (sc c 1) (off_land c 0 (by decide)) _) (off_load c 0 (by decide)) rfl rfl) $$ [Hmul]
  · isplitr; · iexact Hr
    iexact Hmul
  iintro Hmul
  iapply (step_next m K c 1 (by decide) (wrow_of (sc c 3) (off_w c 3 (by decide)) _) (wslot_of 1 rfl _) (wQ_of 1 rfl _)) $$ [Hmul]
  · isplitr; · iexact Hr
    iexact Hmul
  iintro Hmul
  iapply (step_mul m K c 1 (by decide) (wQ_of 0 rfl _) (wslot_of 0 rfl _) (recvQ_of (sc c 2) (off_recv c 1 (by decide)) _)
    (comm_of (sc c 2) (off_land c 1 (by decide)) _) (off_load c 1 (by decide)) rfl rfl) $$ [Hmul]
  · isplitr; · iexact Hr
    iexact Hmul
  iintro Hmul
  iapply (step_next m K c 2 (by decide) (wrow_of (sc c 4) (off_w c 4 (by decide)) _) (wslot_of 0 rfl _) (wQ_of 0 rfl _)) $$ [Hmul]
  · isplitr; · iexact Hr
    iexact Hmul
  iintro Hmul
  iapply (step_mul m K c 2 (by decide) (wQ_of 1 rfl _) (wslot_of 1 rfl _) (recvQ_of (sc c 3) (off_recv c 2 (by decide)) _)
    (comm_of (sc c 3) (off_land c 2 (by decide)) _) (off_load c 2 (by decide)) rfl rfl) $$ [Hmul]
  · isplitr; · iexact Hr
    iexact Hmul
  iintro Hmul
  iapply (step_next m K c 3 (by decide) (wrow_of (sc c 5) (off_w c 5 (by decide)) _) (wslot_of 1 rfl _) (wQ_of 1 rfl _)) $$ [Hmul]
  · isplitr; · iexact Hr
    iexact Hmul
  iintro Hmul
  iapply (step_mul m K c 3 (by decide) (wQ_of 0 rfl _) (wslot_of 0 rfl _) (recvQ_of (sc c 4) (off_recv c 3 (by decide)) _)
    (comm_of (sc c 4) (off_land c 3 (by decide)) _) (off_load c 3 (by decide)) rfl rfl) $$ [Hmul]
  · isplitr; · iexact Hr
    iexact Hmul
  iintro Hmul
  iapply (step_next m K c 4 (by decide) (wrow_of (sc c 6) (off_w c 6 (by decide)) _) (wslot_of 0 rfl _) (wQ_of 0 rfl _)) $$ [Hmul]
  · isplitr; · iexact Hr
    iexact Hmul
  iintro Hmul
  iapply (step_mul m K c 4 (by decide) (wQ_of 1 rfl _) (wslot_of 1 rfl _) (recvQ_of (sc c 5) (off_recv c 4 (by decide)) _)
    (comm_of (sc c 5) (off_land c 4 (by decide)) _) (off_load c 4 (by decide)) rfl rfl) $$ [Hmul]
  · isplitr; · iexact Hr
    iexact Hmul
  iintro Hmul
  iapply (step_next m K c 5 (by decide) (wrow_of (sc c 7) (off_w c 7 (by decide)) _) (wslot_of 1 rfl _) (wQ_of 1 rfl _)) $$ [Hmul]
  · isplitr; · iexact Hr
    iexact Hmul
  iintro Hmul
  iapply (step_mul m K c 5 (by decide) (wQ_of 0 rfl _) (wslot_of 0 rfl _) (recvQ_of (sc c 6) (off_recv c 5 (by decide)) _)
    (comm_of (sc c 6) (off_land c 5 (by decide)) _) (off_load c 5 (by decide)) rfl rfl) $$ [Hmul]
  · isplitr; · iexact Hr
    iexact Hmul
  iintro Hmul
  ihave Hmul := (step_rest m c 6 (by decide)) $$ Hmul
  iapply (step_mul m K c 6 (by decide) (wQ_of 1 rfl _) (wslot_of 1 rfl _) (recvQ_of (sc c 7) (off_recv c 6 (by decide)) _)
    (comm_of (sc c 7) (off_land c 6 (by decide)) _) (off_load c 6 (by decide)) rfl rfl) $$ [Hmul]
  · isplitr; · iexact Hr
    iexact Hmul
  iintro Hmul
  ihave Hmul := (step_rest m c 7 (by decide)) $$ Hmul
  unfold mulSt
  icases Hmul with ⟨HO, Hout, -, Hrv, Hws, -, Hw0, Hw1⟩
  -- the waits for the copies' source sides
  ihave Hback := (back_ready m c) $$ [HO Hcs Hps]
  · isplitl [HO]; · iexact HO
    isplitl [Hcs]; · iexact Hcs
    iexact Hps
  iapply (step_back m K c 0 (by decide) (sendQ_of (tg c 0) (off_send c 0 (by decide)) _) (xrow_of (tg c 0) (off_row c 0 (by decide)) _)) $$ [Hback]
  · isplitr; · iexact Hr
    iexact Hback
  iintro Hback
  iapply (step_back m K c 1 (by decide) (sendQ_of (tg c 1) (off_send c 1 (by decide)) _) (xrow_of (tg c 1) (off_row c 1 (by decide)) _)) $$ [Hback]
  · isplitr; · iexact Hr
    iexact Hback
  iintro Hback
  iapply (step_back m K c 2 (by decide) (sendQ_of (tg c 2) (off_send c 2 (by decide)) _) (xrow_of (tg c 2) (off_row c 2 (by decide)) _)) $$ [Hback]
  · isplitr; · iexact Hr
    iexact Hback
  iintro Hback
  iapply (step_back m K c 3 (by decide) (sendQ_of (tg c 3) (off_send c 3 (by decide)) _) (xrow_of (tg c 3) (off_row c 3 (by decide)) _)) $$ [Hback]
  · isplitr; · iexact Hr
    iexact Hback
  iintro Hback
  iapply (step_back m K c 4 (by decide) (sendQ_of (tg c 4) (off_send c 4 (by decide)) _) (xrow_of (tg c 4) (off_row c 4 (by decide)) _)) $$ [Hback]
  · isplitr; · iexact Hr
    iexact Hback
  iintro Hback
  iapply (step_back m K c 5 (by decide) (sendQ_of (tg c 5) (off_send c 5 (by decide)) _) (xrow_of (tg c 5) (off_row c 5 (by decide)) _)) $$ [Hback]
  · isplitr; · iexact Hr
    iexact Hback
  iintro Hback
  iapply (step_back m K c 6 (by decide) (sendQ_of (tg c 6) (off_send c 6 (by decide)) _) (xrow_of (tg c 6) (off_row c 6 (by decide)) _)) $$ [Hback]
  · isplitr; · iexact Hr
    iexact Hback
  iintro Hback
  unfold backSt
  icases Hback with ⟨HO, -, Hback⟩
  -- the rectified sum
  iapply (load_out c (accV m c 7)) $$ Hout; iintro Hout
  iapply (load_out c (accV m c 7)) $$ Hout; iintro Hout
  iapply (store_out c (accV m c 7) (outV m c)) $$ Hout; iintro Hout
  rw [wp_ret]
  imod (finish m K c) $$ [Hpb Hback Hxc Hrv Hws Hw0 Hw1 Hidle] with ⟨Hw, Hs, Hz⟩
  · isplitr; · iexact Hr
    isplitl [Hpb]; · iexact Hpb
    isplitl [Hback]; · iexact Hback
    isplitl [Hxc]; · iexact Hxc
    isplitl [Hrv]; · iexact Hrv
    isplitl [Hws]; · iexact Hws
    isplitl [Hw0]; · iexact Hw0
    isplitl [Hw1]; · iexact Hw1
    iexact Hidle
  imodintro
  iapply Hk
  isplitl [Hw]; · iexact Hw
  isplitl [Hs]; · unfold scr; iexact Hs
  isplitl [Hz]; · iexact Hz
  isplitl [HO]; · iexact HO
  isplitl [Hx]; · iexact Hx
  iexact Hout

end Cert.Exchange
-- ==== Proof.Run.lean ====
/-
# The launch of the eight devices

The kernel's body under the pipeline that moves the block of `x` in and the result out, the exchange's ghost state minted and
dealt to the devices, and the run of `main` on the whole mesh.
-/
module

public import proofs.«01_k».proof.Proof.Sound
public import proofs.«01_k».proof.Proof.Gen.KernelIdeal.Points
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What device `c`'s body starts from: the exchange's ghost state at some names, its credits and the levels. -/
def start (c : Dev nD) : sProp 𝕄 := iprop((∃ K, ghost m K c) ∗ creds c ∗ levAts L lv ∗ wPts m c)
def Φ₀ (c : Dev nD) : sProp 𝕄 := iprop(start m c ∗ scr c)
def Φ₁ (c : Dev nD) : sProp 𝕄 := iprop(wPts m c ∗ scr c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
set_option maxRecDepth 4000 in
def bodyPost (c : Dev nD) : sProp 𝕄 :=
  iprop(Φ₁ m c ∗ (dats m ρ 0 c).owesAt () t0_0.succ ∗ stg c cc0_stg0_0 (xstg m c) ∗ stg c cc0_stg1_0 (outV m c))

set_option maxRecDepth 4000 in
/-- The pipeline's body obligation on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole main_arg1) (Memref.isWhole_whole _) (Memref.whole cc0_stg1_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5) (fun _ => bodyPost m ρ c)
  unfold bodyPre Φ₀ start Dat.owesAt Pipeline.owesWithin
  iintro ⟨⟨⟨⟨%K, Hg⟩, Hc, Hl, Hw⟩, Hs⟩, ⟨%W, %hW, HO⟩, ⟨%d0, %g0, %hg0, Hx⟩, ⟨%d1, %g1, %hg1, Hout⟩⟩
  have hx : g0 = xstg m c := by rw [hg0]; unfold Dat.before; rw [if_pos (fetch0_0 t0_0)]; rfl
  subst hx
  rw [show (dats m ρ 0 c).owed t0_0.castSucc = O₀ c from rfl]
  iapply (run_body m K c g1 fun _ => bodyPost m ρ c)
  isplitl [Hg]; · iexact Hg
  isplitl [Hc]; · iexact Hc
  isplitl [Hl]; · iexact Hl
  isplitl [Hw]; · iexact Hw
  isplitl [Hs]; · iexact Hs
  isplitl [HO]; · unfold ow; iexists W; iexact HO
  isplitl [Hx]; · unfold xPts; iexact Hx
  isplitl [Hout]; · unfold outPts; iexact Hout
  unfold bodyPost Φ₁ Dat.owesAt Pipeline.owesWithin ow xPts outPts
  rw [show (dats m ρ 0 c).owed t0_0.succ = 0 from rfl]
  iintro ⟨Hw, Hs, Hz, ⟨%W', HO⟩, Hx, Hout⟩
  isplitl [Hw Hs Hz]
  · isplitl [Hw]; · iexact Hw
    isplitl [Hs]; · iexact Hs
    iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-! ## The cells and the tokens, minted -/

/-- The kernel's own semaphores: all its cells but the barrier. -/
abbrev osem (k : Fin 8 ⊕ (Fin 8 ⊕ Fin 2)) : SemLoc sig := csem (.inr k)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × Key → GSem nD τ sig) := by
  rintro ⟨c, k⟩ ⟨c', k'⟩ h
  have h1 : c = c' := congrArg (fun g : GSem nD τ sig => g.1.1) h
  exact Prod.ext h1 (csem_injective (congrArg Prod.snd h))
def xCells : Finset (GSem nD τ sig) := Finset.univ.map ⟨kcell, kcell_injective⟩

/-- A device's own cells' duties: its barrier's, one per device; its send and receive semaphores', one each; its streaming
    semaphores', one per step. -/
abbrev Duty : Type := Fin 8 ⊕ (Fin 8 ⊕ (Fin 8 ⊕ Fin 8))
def dutyOf : Duty → Key × ℕ × Fin 8
  | .inl d => (kBar, 0, d)
  | .inr (.inl t) => (kSend t, 0, 0)
  | .inr (.inr (.inl s)) => (kRecv s, 0, 0)
  | .inr (.inr (.inr t)) => (kW (f2 t.val), t.val / 2, 0)
theorem dutyOf_injective : Function.Injective dutyOf := by decide
def tokOf (cj : Dev nD × Duty) : GSem nD τ sig × ℕ × Dev nD := (kcell (cj.1, (dutyOf cj.2).1), (dutyOf cj.2).2)
theorem tokOf_injective : Function.Injective tokOf := by
  rintro ⟨c, j⟩ ⟨c', j'⟩ h
  have h1 : (c, (dutyOf j).1) = (c', (dutyOf j').1) := kcell_injective (congrArg (fun x : GSem nD τ sig × ℕ × Dev nD => x.1) h)
  have h2 : (dutyOf j).2 = (dutyOf j').2 := congrArg (fun x : GSem nD τ sig × ℕ × Dev nD => x.2) h
  have h3 : c = c' := congrArg (fun x : Dev nD × Key => x.1) h1
  have h4 : (dutyOf j).1 = (dutyOf j').1 := congrArg (fun x : Dev nD × Key => x.2) h1
  rw [h3, dutyOf_injective (Prod.ext h4 h2)]
def xToks : Finset (GSem nD τ sig × ℕ × Dev nD) := Finset.univ.map ⟨tokOf, tokOf_injective⟩

def u₀ : UU := (initOf (Pipeline.cells cfgs cellOf_inj) (Pipeline.launchToks cfgs cellOf_inj), initOf xCells xToks)

/-- The duty tokens of device `c`'s own cells. -/
def ownToks (c : Dev nD) : sProp 𝕄 :=
  bigSep Finset.univ fun j : Duty => dutyTok ER (tokOf (c, j)).1 (tokOf (c, j)).2.1 (tokOf (c, j)).2.2

/-- What the launch element deals device `c`. -/
def G (c : Dev nD) : sProp 𝕄 :=
  iprop((bigSep Finset.univ fun k : Key => roundState ER (xRd m) (kcell (c, k)) 0)
    ∗ (bigSep Finset.univ fun k : Key => iprop(atPos ER (kcell (c, k)) 0 ∅ 0 ∗ reached ER (kcell (c, k)) 0)) ∗ ownToks c)
/-- What the global step makes of it. -/
def G' (c : Dev nD) : sProp 𝕄 := iprop(∃ K, ghost m K c)

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Key => Φ (kcell (c, k)) := by
    unfold xCells; rw [bigSep_map, bigSep_univ_prod]; rfl
  have hT : bigSep xToks (fun x => (dutyTok ER x.1 x.2.1 x.2.2 : sProp 𝕄)) = bigSep Finset.univ fun c : Dev nD => ownToks c := by
    unfold xToks ownToks; rw [bigSep_map, bigSep_univ_prod]; rfl
  iintro HX
  imod (Rounds.fund ER (xRd m) xCells xToks) $$ HX with ⟨Hst, Hr, Hat, Htok⟩
  imodintro
  ihave Hst' := (Entails.of_eq (hX fun g => roundState ER (xRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl
/-- The counters of a device's cells are its own semaphores' and the barrier's. -/
theorem zeros_eq (c : Dev nD) :
    (zeros c : sProp 𝕄) = iprop(unscopedSems0 c ∗ Pipeline.ownSems0 (Ix := Unit) (Name := ℕ) (U := UU) (Lvl := ℕ) (Val := Elt F) (τ := τ) osem c) := by
  unfold zeros Pipeline.ownSems0
  rw [unscopedSems0_eq, bigSep_univ_sum, Finset.univ_unique, bigSep_singleton]
  rfl

/-- A device's semaphores at zero become the invariants of its cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xRd m) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (Entails.of_eq (zeros_eq (F := F) c).symm) $$ [Hos Hus]
  · isplitl [Hus] <;> iassumption
  imod (show iprop(zeros c ∗ bigSep Finset.univ fun k : Key => roundState ER (xRd m) (kcell (c, k)) 0)
      ⊢ (|={Set.univ}=> bigSep Finset.univ fun k => iprop(∃ κ : ℕ, cellInv ER (xRd m) κ (kcell (c, k))) : sProp 𝕄) from by
        unfold zeros
        rw [← bigSep_sep']
        exact (bigSep_mono fun k _ => (Rounds.body_intro ER (xRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens, dealt: a barrier's token of device `d` to `d`, a receive semaphore's to the device it is numbered by, the
    others to their cell's device. -/
theorem deal : (bigSep Finset.univ fun c : Dev nD => (ownToks c : sProp 𝕄)) ⊢ bigSep Finset.univ fun c : Dev nD => toks c := by
  have hw (c : Dev nD) : bigSep (Finset.Ico 0 8) (fun t => (dutyTok ER (wCell c (f2 t)) (t / 2) 0 : sProp 𝕄))
      = bigSep Finset.univ fun t : Fin 8 => dutyTok ER (wCell c (f2 t.val)) (t.val / 2) 0 := by
    have e : Finset.Ico 0 8 = (Finset.univ : Finset (Fin 8)).image Fin.val := by decide
    rw [e, bigSep_image_of_injOn (Fin.val_injective.injOn)]
  have h1 (c : Dev nD) : (ownToks c : sProp 𝕄) = iprop(bigSep Finset.univ (fun d : Fin 8 => dutyTok ER (barCell c) 0 d)
      ∗ bigSep Finset.univ (fun t : Fin 8 => dutyTok ER (sendCell c t) 0 0) ∗ bigSep Finset.univ (fun s : Fin 8 => dutyTok ER (recvCell c s) 0 0)
      ∗ bigSep Finset.univ (fun t : Fin 8 => dutyTok ER (wCell c (f2 t.val)) (t.val / 2) 0)) := by
    unfold ownToks
    rw [bigSep_univ_sum, bigSep_univ_sum, bigSep_univ_sum]
    rfl
  rw [bigSep_congr fun c _ => h1 c]
  unfold toks
  simp only [hw]
  rw [bigSep_sep', bigSep_sep', bigSep_sep', bigSep_sep', bigSep_sep', bigSep_sep',
    BI.bigSep_univ_comm (fun c d : Fin 8 => (dutyTok ER (barCell c) 0 d : sProp 𝕄)),
    BI.bigSep_univ_comm (fun c s : Fin 8 => (dutyTok ER (recvCell c s) 0 0 : sProp 𝕄))]
  iintro ⟨H1, H2, H3, H4⟩
  isplitl [H1]; · iexact H1
  isplitl [H3]; · iexact H3
  isplitl [H2]; · iexact H2
  iexact H4

theorem regroup :
    (bigSep Finset.univ fun c : Dev nD => iprop((bigSep Finset.univ fun k => iprop(∃ κ : ℕ, cellInv ER (xRd m) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m) := by
  rw [bigSep_sep', bigSep_sep', ← bigSep_univ_prod (fun ck : Dev nD × Key => iprop(∃ κ : ℕ, cellInv ER (xRd m) κ (kcell ck))),
    bigSep_congr (s := Finset.univ) (fun (c : Dev nD) _ => bigSep_sep' Finset.univ (fun k : Key => (atPos ER (kcell (c, k)) 0 ∅ 0 : sProp 𝕄)) (fun k => reached ER (kcell (c, k)) 0)),
    bigSep_sep', ← bigSep_univ_prod (fun ck : Dev nD × Key => (reached ER (kcell ck) 0 : sProp 𝕄))]
  iintro ⟨HI, ⟨Hat, #HR⟩, Htok⟩
  ihave HK := (BI.bigSep_exists_pi Finset.univ (fun (ck : Dev nD × Key) (κ : ℕ) => (cellInv ER (xRd m) κ (kcell ck) : sProp 𝕄))) $$ HI
  icases HK with ⟨%K, #HI⟩
  ihave Htok := (deal (F := F)) $$ Htok
  iapply (BI.bigSep_with_persistent (R := recs m K) (Φ := fun c => iprop(posAll c (fun _ => 0) ∗ toks c)) (Ψ := G' m) fun c _ => by
    unfold G' ghost
    iintro ⟨Hr, Hp, Ht⟩
    iexists K
    isplitl [Hr]; · iexact Hr
    isplitl [Hp] <;> iassumption)
  isplitr
  · unfold recs; isplitl; · iexact HI
    iexact HR
  · rw [bigSep_sep']
    isplitl [Hat]; · unfold posAll; iexact Hat
    iexact Htok

/-- The global step: every device's semaphores and dealt state become every device's ghost state. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem recvCell_eq_iff (c s c' s' : Fin 8) : recvCell c s = recvCell c' s' ↔ c' = c ∧ s' = s := by
  constructor
  · intro h
    have h1 : ((c, kRecv s) : Dev nD × Key) = (c', kRecv s') := kcell_injective h
    have h2 : s = s' := by
      have h3 : kRecv s = kRecv s' := congrArg (fun x : Dev nD × Key => x.2) h1
      clear h h1; revert s s'; decide
    exact ⟨(congrArg (fun x : Dev nD × Key => x.1) h1).symm, h2.symm⟩
  · rintro ⟨rfl, rfl⟩; rfl
theorem barCell_eq_iff (c c' : Fin 8) : barCell c = barCell c' ↔ c' = c :=
  ⟨fun h => (congrArg (fun g : GSem nD τ sig => g.1.1) h).symm, fun h => by rw [h]⟩
theorem bar_ne_recv (c c' s' : Fin 8) : barCell c ≠ recvCell c' s' := fun h => by
  have h1 : ((c, kBar) : Dev nD × Key) = (c', kRecv s') := kcell_injective h
  have h3 : kBar = kRecv s' := congrArg (fun x : Dev nD × Key => x.2) h1
  clear h h1; revert s'; decide

/-- What device `d` owes a receive semaphore by its copies, counted. -/
theorem owed_recv (d c s : Fin 8) (n : ℕ) :
    oweR d n (recvCell c s) () = ∑ i ∈ Finset.range n, if tg d (6 - i) = c ∧ d = s then N else 0 := by
  induction n with
  | zero => rfl
  | succ n ih => rw [Finset.sum_range_succ, ← ih, oweR, Pi.add_apply, Finsupp.add_apply, tallyAt_apply]; simp only [recvCell_eq_iff, and_true]
theorem owedB_recv (d c s : Fin 8) (n : ℕ) : oweB d n (recvCell c s) () = oweR d 7 (recvCell c s) () := by
  induction n with
  | zero => rfl
  | succ n ih => rw [← ih, oweB, Pi.add_apply, Finsupp.add_apply, tallyAt_ne_cell (bar_ne_recv _ _ _).symm]; rfl
theorem owedR_bar (d c : Fin 8) (n : ℕ) : oweR d n (barCell c) () = 0 := by
  induction n with
  | zero => rfl
  | succ n ih => rw [oweR, Pi.add_apply, Finsupp.add_apply, ih, tallyAt_ne_cell (bar_ne_recv _ _ _)]; rfl
/-- What device `d` owes a barrier by its signals, counted. -/
theorem owed_bar (d c : Fin 8) (n : ℕ) :
    oweB d n (barCell c) () = ∑ i ∈ Finset.range n, if tg d (6 - i) = c then 1 else 0 := by
  induction n with
  | zero => exact owedR_bar d c 7
  | succ n ih => rw [Finset.sum_range_succ, ← ih, oweB, Pi.add_apply, Finsupp.add_apply, tallyAt_apply]; simp only [barCell_eq_iff, and_true]

theorem total_bar : ∀ c : Fin 8, (∑ d : Fin 8, ∑ i ∈ Finset.range 7, if tg d (6 - i) = c then 1 else 0) = 7 := by decide +kernel
theorem total_recv (k : ℕ) (c s : Fin 8) (h : s ≠ c) : (∑ d : Fin 8, ∑ i ∈ Finset.range 7, if tg d (6 - i) = c ∧ d = s then k else 0) = k := by
  have e : ∀ d i, (if tg d (6 - i) = c ∧ d = s then k else 0) = (if tg d (6 - i) = c ∧ d = s then 1 else 0) * k := fun d i => by split <;> simp
  simp only [e, ← Finset.sum_mul]
  have h1 : ∀ c s : Fin 8, s ≠ c → (∑ d : Fin 8, ∑ i ∈ Finset.range 7, if tg d (6 - i) = c ∧ d = s then 1 else 0) = 1 := by decide +kernel
  rw [h1 c s h, Nat.one_mul]

theorem launchCredit_bar (c : Dev nD) : tallyOn (barCell c) (launchCredit (Pipeline.owing O₀) 0 (barCell c)) = (tallyAt (barCell c) () 7 : CellTallies nD τ sig Unit) := by
  unfold tallyAt
  refine congrArg _ (Finsupp.ext fun u => ?_)
  cases u
  rw [Pipeline.launchCredit_owing, Finsupp.single_eq_same, ← total_bar c]
  exact Finset.sum_congr rfl fun d _ => owed_bar d c 7
theorem launchCredit_recv (c s : Dev nD) (h : s ≠ c) :
    tallyOn (recvCell c s) (launchCredit (Pipeline.owing O₀) 0 (recvCell c s)) = (tallyAt (recvCell c s) () N : CellTallies nD τ sig Unit) := by
  unfold tallyAt
  refine congrArg _ (Finsupp.ext fun u => ?_)
  cases u
  rw [Pipeline.launchCredit_owing, Finsupp.single_eq_same, ← total_recv N c s h]
  exact Finset.sum_congr rfl fun d _ => (owedB_recv d c s 7).trans (owed_recv d c s 7)

/-- A device's launch credit covers its barrier's seven signals and the seven copies that reach it. -/
theorem creds_of_launch (c : Dev nD) : (Pipeline.launchCred (Ix := Unit) (Name := ℕ) (U := UU) (Lvl := ℕ) (Val := Elt F) (τ := τ) O₀ c) ⊢ (creds c : sProp 𝕄) := by
  have hq : ∀ s ∈ Finset.univ.erase c, (cred (tallyOn (recvCell c s) (launchCredit (Pipeline.owing O₀) 0 (recvCell c s))) : sProp 𝕄) = cred (tallyAt (recvCell c s) () N) :=
    fun s hs => by rw [launchCredit_recv c s (Finset.ne_of_mem_erase hs)]
  unfold Pipeline.launchCred creds
  rw [bigSep_univ_at _ (SemLoc.reg barS), launchCredit_bar c]
  refine sep_mono_r ?_
  rw [← bigSep_congr hq]
  have hinj : Set.InjOn (fun s : Fin 8 => csem (kRecv s)) (Finset.univ.erase c : Finset (Fin 8)) := fun a _ b _ h => by
    have h3 : kRecv a = kRecv b := csem_injective h
    exact (recvCell_eq_iff c a c b).mp (by rw [show recvCell c a = kcell (c, kRecv a) from rfl, h3]; rfl) |>.2.symm
  refine BI.Entails.trans (BI.bigSep_subset (t := (Finset.univ.erase c).image fun s : Fin 8 => csem (kRecv s)) ?_) ?_
  · intro x hx
    obtain ⟨s, _, rfl⟩ := Finset.mem_image.mp hx
    exact Finset.mem_erase.mpr ⟨(by decide : ∀ s : Fin 8, csem (kRecv s) ≠ SemLoc.reg barS) s, Finset.mem_univ _⟩
  · rw [bigSep_image_of_injOn hinj]
    exact BI.Entails.refl _

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp : sProp 𝕄) := by
  rw [Pipeline.unscopedRestP_none, show cfg0.spec = spec0 from rfl, unscopedRest0_eq]
  iintro ⟨Hw, Hlev, Hcr, -, HG⟩
  ihave Hc := (creds_of_launch (F := F) c) $$ Hcr
  imodintro
  unfold start G' wPts wv
  isplitl
  · isplitl [HG]; · iexact HG
    isplitl [Hc]; · iexact Hc
    isplitl [Hlev]; · iexact Hlev
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show cfg0.spec = spec0 from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop((wPts m c ∗ unscopedSems0 c) ∗ Pipeline.ownSems0 osem c ∗ Pipeline.scopedRest cfg0.spec c) := by
  rw [show (dats m ρ 0 c).Φ (Fin.last cfg0.N) = Φ₁ m c from rfl, show cfg0.spec = spec0 from rfl, scopedRest0_eq]
  unfold Φ₁ scr
  rw [zeros_eq]
  iintro ⟨Hw, Hr, HzB, HzO⟩
  isplitl [Hw HzB]; · isplitl [Hw] <;> iassumption
  isplitl [HzO]; · iexact HzO
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What device `c`'s pipelined array `w` holds after the run. -/
def finalA (c : Dev nD) (w : Fin cfg0.W) : Buf (Elt F) ((cfg0.win w).arr.view.loc (c : Thread nD τ)) := (dats m ρ 0 c).arrAt w cfg0.N

/-- Every device's pipelined arrays at their final contents, and its `w` as it was. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = wv m c

set_option maxRecDepth 8000 in
/-- On the mesh of eight devices, for any float values, from any memory with zero counters: every weakly fair execution of
    `main` terminates, with each device's result at the contents its body computes, `x` and `w` unchanged and every semaphore
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun c => iprop(wPts m c ∗ unscopedSems0 c)) (Z := fun _ => iprop(emp))
    (hX := start_intro m ρ) (hin := phi0_intro m ρ) (hout := phi1_exit m ρ)
    (QY := fun c s => s.mem ((c : Thread nD τ).loc main_arg1) = wv m c ∧ ∀ sm : SemLoc sig, sm.isScoped .tc = false → s.sem ((c.tc : Thread nD τ), sm) = 0)
    (hY := fun c s' => by
      iintro ⟨⟨Hw, Hu⟩, -, HSI⟩
      unfold wPts
      ihave %hw := (SI_pointsTo_agree) $$ [HSI Hw]
      · isplitl [HSI] <;> iassumption
      imod (Pipeline.unscopedSems0_read (X := unscopedSems0 c) (c := c) fupd_intro s') $$ [Hu HSI] with ⟨%hz, HSI⟩
      · isplitl [Hu] <;> iassumption
      imodintro
      isplitr
      · ipureintro; exact ⟨funext fun i => hw i (Finset.mem_univ _), hz⟩
      iexact HSI)
    (hQ := fun _ h hs => ⟨fun c => ⟨fun w => (h c).1 w, (h c).2.2.1⟩, sem_eq_zero hs fun c => (h c).2.2.2⟩)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Exchange
-- ==== Proof.Value.lean ====
/-
# What the run computes

Over the extended reals: device `c`'s result is block `c` of `max (x · w) 0`. The eight products that a device adds up are
the eight column blocks of one product of 4096 terms, taken in the order in which the blocks arrive.
-/
module

public import proofs.«01_k».proof.Proof.Run
public import Idealize.ShloMosaic.Lib.Layout
public import Idealize.ShloMosaic.Lib.MatmulPlain
public import Idealize.ShloMosaic.Lib.StackMember
public import Idealize.ShloMosaic.Lib.Pipeline.Value
public import Idealize.ShloMosaic.Lib.Pipeline.ValueKit.Geometry

@[expose] public section

noncomputable section

namespace Cert.Exchange

open Cert.KernelIdeal Cert.KernelIdeal.Gen
open Idealize.ShloMosaic Idealize.ShloMosaic.TcCoe Idealize.ShloMosaic.ValueIdx

section Any
variable {F : FTy → Type} [FloatOps F]
variable (m : (ℓ : Loc nD τ sig) → Buf (Elt F) ℓ) (ρ : Dev nD → PrngReg)

/-- The result array ends at what the body left in its staging buffer. -/
theorem finalA_out (c : Dev nD) : finalA m ρ c (1 : Fin 2) = outV m c := by
  unfold finalA
  refine (dats (F := F) m ρ 0 c).arrAt_eq_of_covers (1 : Fin 2) (outV m c) (by decide +kernel) fun t hf y => ?_
  show outV m c _ = outV m c _
  congr 1
  funext a; apply Fin.ext
  fin_cases a
  · show (y 0).val = 0 * 512 + 1 * (y 0).val; omega
  · show (y 1).val = 0 * 2048 + 1 * (y 1).val; omega

/-- The staged block of `x` is the whole block. -/
theorem xstg_eq (c : Dev nD) : (xstg m c : S4096x512.Idx → Elt F .f32) = m ((c : Thread nD τ).loc main_arg0) := by
  funext i
  show m ((c : Thread nD τ).loc main_arg0) _ = m ((c : Thread nD τ).loc main_arg0) i
  congr 1
  funext a; apply Fin.ext
  fin_cases a
  · show 0 * 4096 + 1 * (i 0).val = (i 0).val; omega
  · show 0 * 512 + 1 * (i 1).val = (i 1).val; omega

/-- Row `r` of row block `b`. -/
def row (b : Fin 8) (r : Fin 512) : Fin 4096 := ⟨512 * b.val + r.val, by omega⟩

theorem read_xrow_at (b : Fin 8) (f : S4096x512.Idx → Elt F .bf16) (r k : Fin 512) :
    ((xrow b).view.read (Elt F) f : S512x512.Idx → Elt F .bf16) (ix2 r k) = f (ix2 (row b r) k) := by
  show f _ = f _
  congr 1
  funext a; apply Fin.ext
  fin_cases a
  · show 512 * b.val + 1 * r.val = 512 * b.val + r.val; omega
  · show 0 + 1 * k.val = k.val; omega

theorem read_wrow_at (b : Fin 8) (f : S4096x2048.Idx → Elt F .f32) (k : Fin 512) (j : Fin 2048) :
    ((wrow b).view.read (Elt F) f : S512x2048.Idx → Elt F .f32) (ix2 k j) = f (ix2 (row b k) j) := by
  show f _ = f _
  congr 1
  funext a; apply Fin.ext
  fin_cases a
  · show 512 * b.val + 1 * k.val = 512 * b.val + k.val; omega
  · show 0 + 1 * j.val = j.val; omega

end Any

variable (m : (ℓ : Loc nD τ sig) → Buf (Elt Ideal) ℓ) (ρ : Dev nD → PrngReg)

/-- Device `s`'s block of `x`, and device `c`'s `w`, as arrays of extended reals. -/
def xa (s : Dev nD) : S4096x512.Idx → EReal := m ((s : Thread nD τ).loc main_arg0)
def wa (c : Dev nD) : S4096x2048.Idx → EReal := m ((c : Thread nD τ).loc main_arg1)

theorem xbf_eq (s : Dev nD) : (xbf m s : S4096x512.Idx → EReal) = xa m s := by
  unfold xbf k0_pay2 k0_pay1
  dsimp only
  rw [shapeCast_self, shapeCast_self, xstg_eq]
  rfl

theorem xblock_at (s b : Fin 8) (r k : Fin 512) : (xblock m s b (ix2 r k) : EReal) = xa m s (ix2 (row b r) k) := by
  unfold xblock; rw [read_xrow_at]; exact congrFun (xbf_eq m s) _
theorem wblock_at (c b : Fin 8) (k : Fin 512) (j : Fin 2048) : (wblock m c b (ix2 k j) : EReal) = wa m c (ix2 (row b k) j) := by
  unfold wblock; rw [read_wrow_at]; rfl

/-- One product at an index: 512 terms. -/
theorem mulV_at (A : S512x512.Idx → EReal) (W : S512x2048.Idx → EReal) (r : Fin 512) (j : Fin 2048) :
    (mulV (F := Ideal) A W (ix2 r j) : EReal) = ∑ k : Fin 512, A (ix2 r k) * W (ix2 k j) := by
  unfold mulV
  rw [show dot_S512x512_S512x2048_S512x2048_1_0_0_1_n_n = DotDims.plain 512 512 2048 from rfl]
  refine (Ideal.matmul_plain_apply (M := 512) (K := 512) (N := 2048) none _ _ _ r j).trans ?_
  rw [show (constant (F := Ideal) S512x2048 .f32 0x00000000#32) (ix2 r j) = (0 : EReal) from Ideal.ofBits_zero_f32, zero_add]
  rfl

/-- The terms of block `s` of the product that device `c` computes, at row `r` and column `j`. -/
def term (c s : Dev nD) (r : Fin 512) (j : Fin 2048) : EReal := ∑ k : Fin 512, xa m s (ix2 (row c r) k) * wa m c (ix2 (row s k) j)

theorem mul_at (c s : Dev nD) (r : Fin 512) (j : Fin 2048) : (mulV (xblock m s c) (wblock m c s) (ix2 r j) : EReal) = term m c s r j := by
  refine (mulV_at _ _ r j).trans ?_
  unfold term
  refine Finset.sum_congr rfl fun k _ => ?_
  rw [xblock_at, wblock_at]

/-- The running sum after step `t` holds the products of the steps so far. -/
theorem accV_at (c : Dev nD) (r : Fin 512) (j : Fin 2048) (t : ℕ) :
    (accV m c t (ix2 r j) : EReal) = ∑ u ∈ Finset.range (t + 1), term m c (sc c u) r j := by
  induction t with
  | zero => rw [Finset.sum_range_one, sc_zero]; exact mul_at m c c r j
  | succ t ih =>
    rw [Finset.sum_range_succ, ← ih, ← mul_at, accV, addV, shapeCast_self]
    rfl

/-- Every device is the sender of one of the eight steps. -/
theorem sum_sc (c : Fin 8) (f : Fin 8 → EReal) : ∑ u ∈ Finset.range 8, f (sc c u) = ∑ s, f s := by
  have e : ∀ c : Fin 8, (Finset.univ : Finset (Fin 8)) = (Finset.range 8).image (sc c) := by decide
  have hi : ∀ c : Fin 8, ∀ a ∈ Finset.range 8, ∀ b ∈ Finset.range 8, sc c a = sc c b → a = b := by decide
  rw [e c, Finset.sum_image fun a ha b hb h => hi c a ha b hb h]

/-- A sum of 4096 terms, as eight sums of 512. -/
theorem sum_row (f : Fin 4096 → EReal) : ∑ K, f K = ∑ s : Fin 8, ∑ k : Fin 512, f (row s k) := by
  rw [← Fintype.sum_prod_type' (fun s k => f (row s k)), ← Equiv.sum_comp (finProdFinEquiv : Fin 8 × Fin 512 ≃ Fin 4096) f]
  refine Finset.sum_congr rfl fun p _ => congrArg f (Fin.ext ?_)
  show p.2.val + 512 * p.1.val = 512 * p.1.val + p.2.val
  omega

/-- The whole product with the negative entries cut off, at an index. -/
def whole (X : (⟨2, ![4096, 4096]⟩ : Shape).Idx → EReal) (W : S4096x2048.Idx → EReal) (a : Fin 4096) (j : Fin 2048) : EReal :=
  max (∑ K : Fin 4096, X (ix2 a K) * W (ix2 K j)) 0

/-- Device `c`'s result at an index, where the devices' blocks of `x` are those of `X` and its `w` is `W`. -/
theorem outV_at (X : (⟨2, ![4096, 4096]⟩ : Shape).Idx → EReal) (W : S4096x2048.Idx → EReal) (c : Dev nD)
    (hX : ∀ (s : Dev nD) (a : Fin 4096) (k : Fin 512), xa m s (ix2 a k) = X (ix2 a (row s k))) (hW : wa m c = W) (r : Fin 512) (j : Fin 2048) :
    (outV m c (ix2 r j) : EReal) = whole X W (row c r) j := by
  have h : (accV m c 7 (ix2 r j) : EReal) = ∑ K : Fin 4096, X (ix2 (row c r) K) * W (ix2 K j) := by
    rw [accV_at, sum_sc c fun s => term m c s r j, sum_row]
    refine Finset.sum_congr rfl fun s _ => Finset.sum_congr rfl fun k _ => ?_
    rw [hX, hW]
  unfold outV k0_pay11 whole
  rw [shapeCast_self, ← h]
  show max (accV m c 7 (ix2 r j) : EReal) (Ideal.ofBits .f32 0x00000000#32) = _
  rw [Ideal.ofBits_zero_f32]

end Cert.Exchange
-- ==== Proof.Claims.lean ====
/-
# The claims

The frames of the three programs, and the equation between the kernel and the reference.
-/
module

public import proofs.«01_k».proof.Defs
public import proofs.«01_k».proof.Proof.Value
public import proofs.«01_k».proof.Proof.Gen.Kernel
public import proofs.«01_k».proof.Proof.Gen.ReferenceIdeal.Run
public import Idealize.ShloMosaic.Lib.Quiescent

@[expose] public section

noncomputable section

namespace Cert.Exchange

open Cert.KernelIdeal.Gen Cert.Kernel.Gen Cert.ReferenceIdeal.Gen
open Idealize.ShloMosaic Idealize.ShloMosaic.TcCoe Idealize.ShloMosaic.ValueIdx Idealize.SL.Sem

section Any
open Cert.KernelIdeal
variable {F : FTy → Type} [FloatOps F]

/-- The kernel's run, read at its result, its two arguments and its semaphores. -/
theorem run_read (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_v1) = outV m c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0 :=
  (θ_run defs _ _).mono (fun _ h => ⟨fun c => ⟨((h.1 c).1 (1 : Fin 2)).trans (finalA_out m ρ c), ((h.1 c).1 (0 : Fin 2)).trans (finalA_x m ρ c), (h.1 c).2⟩, h.2⟩)
    (run_main m ρ)

/-- The same, of the arguments and the semaphores alone. -/
theorem run_frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun _ h => ⟨fun c => (h.1 c).2, h.2⟩) (run_read m ρ)

end Any

/-- The idealized kernel's frame. -/
theorem frame_ideal : Cert.quiescent_KernelIdeal := fun m ρ _ => run_frame (F := Ideal) m ρ

/-- The kernel's body table is the idealized kernel's: its one body is the same text. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl
theorem defs_eq : Cert.Kernel.defs (F := Bits) = Cert.KernelIdeal.defs (F := Bits) := by
  unfold Cert.Kernel.defs Cert.KernelIdeal.defs
  exact congrArg (Pipeline.defs Cert.KernelIdeal.pcfgs) bodies_eq

/-- The kernel's frame: its text is the idealized kernel's, so its run is the same run over the bit patterns. -/
theorem frame_bits : Cert.quiescent_Kernel := fun m ρ _ => by
  rw [defs_eq]
  exact run_frame (F := Bits) m ρ

/-- The reference's frame: it has no semaphores. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result at an index. -/
theorem ref_at (X : FVec Ideal ⟨2, ![4096, 4096]⟩ .f32) (W : FVec Ideal ⟨2, ![4096, 2048]⟩ .f32) (a : Fin 4096) (j : Fin 2048) :
    (maximumf (F := Ideal) (Host.dotGeneral Cert.ReferenceIdeal.dot_S4096x4096_S4096x2048_S4096x2048_1_0_0_1_n_n none X W)
      (broadcastInDim Cert.ReferenceIdeal.S4096x2048 ![] Cert.ReferenceIdeal.Facts₀.bcast_S_S4096x2048 (constant Cert.ReferenceIdeal.S_ .f32 0x00000000#32)) (ix2 a j) : EReal)
      = whole X W a j := by
  unfold whole
  rw [← StackMember.dotGeneral_plain_apply (m := 4096) (n := 2048) none X W a j,
    show Cert.ReferenceIdeal.dot_S4096x4096_S4096x2048_S4096x2048_1_0_0_1_n_n = DotDims.plain 4096 4096 2048 from rfl]
  show max _ (Ideal.ofBits .f32 0x00000000#32) = _
  rw [Ideal.ofBits_zero_f32]

/-- Over the extended reals, device `c`'s result is block `c` of the reference's. -/
theorem value : Cert.algebraic_KernelIdeal_ReferenceIdeal := fun m g m' g' _ hin => by
  refine ⟨_, (θ_run Cert.KernelIdeal.defs _ _).mono (fun r h c => ⟨?_, (h.1 c).2⟩) (run_read (F := Ideal) m g),
    (θ_run Cert.ReferenceIdeal.defs _ _).mono (fun r h => h 0) (Cert.ReferenceIdeal.Value.run (F := Ideal) m' g')⟩
  rw [(h.1 c).1]
  funext i
  obtain ⟨a, j, rfl⟩ : ∃ (a : Fin 512) (j : Fin 2048), i = ix2 a j := ⟨i 0, i 1, eq_ix2 i⟩
  refine (outV_at m (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)) c
    (fun s a k => ?_) (hin c).2 a j).trans ?_
  · unfold xa
    rw [(hin s).1]
    refine congrArg (m' _) (funext fun b => Fin.ext ?_)
    fin_cases b
    · rfl
    · show s.val * 512 + k.val = 512 * s.val + k.val; omega
  · rw [← ref_at]
    refine congrArg (maximumf (F := Ideal) _ _) (funext fun b => Fin.ext ?_)
    fin_cases b
    · show 512 * c.val + a.val = c.val * 512 + a.val; omega
    · rfl

end Cert.Exchange
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything that the certificate claims. -/
theorem claim : Cert.Claim := ⟨Cert.Kernel.Gen.facts, Cert.KernelIdeal.Gen.facts, Cert.ReferenceIdeal.Gen.facts,
  Cert.Exchange.frame_bits, Cert.Exchange.frame_ideal, Cert.Exchange.frame_ref, trivial, Cert.Exchange.value⟩

end Cert.Proof

end
